-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual [hPre_usual : Cert.Pre_usual.Facts] (m : (ℓ : Loc Cert.KernelIdeal.nD Cert.KernelIdeal.τ Cert.KernelIdeal.sig) → Buf (Elt Ideal) ℓ) : Prop :=
  ∀ c : Dev Cert.KernelIdeal.nD,
    (Cert.Pre_usual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual [hPre_usual : Cert.Pre_usual.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_usual [hKernelIdeal : Cert.KernelIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_usual [hReferenceIdeal : Cert.ReferenceIdeal.Facts] [hPre_usual : Cert.Pre_usual.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "qscale" .f32 0x3E16C740#32 (((Real.log 2)⁻¹ * (Real.sqrt 96)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_usual [hKernelIdeal : Cert.KernelIdeal.Facts] [hReferenceIdeal : Cert.ReferenceIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_usual : Cert.Pre_usual.Facts),
    quiescent_Kernel (hKernel := hKernel)
    ∧ quiescent_KernelIdeal (hKernelIdeal := hKernelIdeal)
    ∧ quiescent_KernelIdeal_pre_usual (hKernelIdeal := hKernelIdeal) (hPre_usual := hPre_usual)
    ∧ quiescent_ReferenceIdeal (hReferenceIdeal := hReferenceIdeal)
    ∧ quiescent_ReferenceIdeal_pre_usual (hReferenceIdeal := hReferenceIdeal) (hPre_usual := hPre_usual)
    ∧ preserves_Kernel_KernelIdeal
    ∧ algebraic_KernelIdeal_ReferenceIdeal_pre_usual (hKernelIdeal := hKernelIdeal) (hReferenceIdeal := hReferenceIdeal) (hPre_usual := hPre_usual)
-- ==== Pre_usual.lean ====
abbrev S32x1024x1024 : Shape := ⟨3, ![32, 1024, 1024]⟩
abbrev S32x1024x1 : Shape := ⟨3, ![32, 1024, 1]⟩
abbrev S32x1x1024 : Shape := ⟨3, ![32, 1, 1024]⟩
abbrev S256x768 : Shape := ⟨2, ![256, 768]⟩
abbrev S768 : Shape := ⟨1, ![768]⟩
abbrev S1024 : Shape := ⟨1, ![1024]⟩
abbrev S768x768 : Shape := ⟨2, ![768, 768]⟩
abbrev S768x1024 : Shape := ⟨2, ![768, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024x1 : S_.BroadcastsInDim S32x1024x1 (![] : Fin 0 → Fin S32x1024x1.rank)
  reducesTo_S32x1024x1_S_d0_1_2 : S32x1024x1.ReducesTo [0, 1, 2] S_
  bcast_S_S32x1x1024 : S_.BroadcastsInDim S32x1x1024 (![] : Fin 0 → Fin S32x1x1024.rank)
  reducesTo_S32x1x1024_S_d0_1_2 : S32x1x1024.ReducesTo [0, 1, 2] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S768x1024 : S_.BroadcastsInDim S768x1024 (![] : Fin 0 → Fin S768x1024.rank)
  reducesTo_S768x1024_S_d0_1 : S768x1024.ReducesTo [0, 1] S_

variable [Facts]

def fn_part4 {F : FTy → Type} [FloatOps F] (main_arg15 : FVec F S768 .f32) (main_v66 : IVec S_ 1) (main_v67 : FVec F S768x768 .f32) : IVec S_ 1 :=
  let main_cst_26 : FVec F S_ .f32 := constant S_ .f32 0x7F800000#32
  let main_v68 : FVec F S768x768 .f32 := broadcastInDim S768x768 ![] bcast_S_S768x768 main_cst_26
  let main_v69 : IVec S768x768 1 := cmpf .olt main_v67 main_v68
  let main_c_27 : IVec S_ 1 := constantI S_ 1 1#1
  let main_v70 : IVec S_ 1 := (fun x v => Host.reduce IntOp.andi x v reducesTo_S768x768_S_d0_1 h_S_) main_v69 main_c_27
  let main_v71 : IVec S_ 1 := andi main_v66 main_v70
  let main_v72 : FVec F S768 .f32 := Host.absf main_arg15
  let main_cst_28 : FVec F S_ .f32 := constant S_ .f32 0x7F800000#32
  let main_v73 : FVec F S768 .f32 := broadcastInDim S768 ![] bcast_S_S768 main_cst_28
  let main_v74 : IVec S768 1 := cmpf .olt main_v72 main_v73
  let main_c_29 : IVec S_ 1 := constantI S_ 1 1#1
  let main_v75 : IVec S_ 1 := (fun x v => Host.reduce IntOp.andi x v reducesTo_S768_S_d0 h_S_) main_v74 main_c_29
  let main_v76 : IVec S_ 1 := andi main_v71 main_v75
  main_v76

def fn_part3 {F : FTy → Type} [FloatOps F] (main_arg11 : FVec F S768 .f32) (main_arg12 : FVec F S768 .f32) (main_arg13 : FVec F S768 .f32) (main_arg14 : FVec F S768x768 .f32) (main_arg15 : FVec F S768 .f32) (main_v46 : IVec S_ 1) (main_v49 : IVec S768x1024 1) (main_c_19 : IVec S_ 1) : IVec S_ 1 :=
  let main_v50 : IVec S_ 1 := (fun x v => Host.reduce IntOp.andi x v reducesTo_S768x1024_S_d0_1 h_S_) main_v49 main_c_19
  let main_v51 : IVec S_ 1 := andi main_v46 main_v50
  let main_v52 : FVec F S768 .f32 := Host.absf main_arg11
  let main_cst_20 : FVec F S_ .f32 := constant S_ .f32 0x7F800000#32
  let main_v53 : FVec F S768 .f32 := broadcastInDim S768 ![] bcast_S_S768 main_cst_20
  let main_v54 : IVec S768 1 := cmpf .olt main_v52 main_v53
  let main_c_21 : IVec S_ 1 := constantI S_ 1 1#1
  let main_v55 : IVec S_ 1 := (fun x v => Host.reduce IntOp.andi x v reducesTo_S768_S_d0 h_S_) main_v54 main_c_21
  let main_v56 : IVec S_ 1 := andi main_v51 main_v55
  let main_v57 : FVec F S768 .f32 := Host.absf main_arg12
  let main_cst_22 : FVec F S_ .f32 := constant S_ .f32 0x7F800000#32
  let main_v58 : FVec F S768 .f32 := broadcastInDim S768 ![] bcast_S_S768 main_cst_22
  let main_v59 : IVec S768 1 := cmpf .olt main_v57 main_v58
  let main_c_23 : IVec S_ 1 := constantI S_ 1 1#1
  let main_v60 : IVec S_ 1 := (fun x v => Host.reduce IntOp.andi x v reducesTo_S768_S_d0 h_S_) main_v59 main_c_23
  let main_v61 : IVec S_ 1 := andi main_v56 main_v60
  let main_v62 : FVec F S768 .f32 := Host.absf main_arg13
  let main_cst_24 : FVec F S_ .f32 := constant S_ .f32 0x7F800000#32
  let main_v63 : FVec F S768 .f32 := broadcastInDim S768 ![] bcast_S_S768 main_cst_24
  let main_v64 : IVec S768 1 := cmpf .olt main_v62 main_v63
  let main_c_25 : IVec S_ 1 := constantI S_ 1 1#1
  let main_v65 : IVec S_ 1 := (fun x v => Host.reduce IntOp.andi x v reducesTo_S768_S_d0 h_S_) main_v64 main_c_25
  let main_v66 : IVec S_ 1 := andi main_v61 main_v65
  let main_v67 : FVec F S768x768 .f32 := Host.absf main_arg14
  fn_part4 (F := F) main_arg15 main_v66 main_v67

def fn_part2 {F : FTy → Type} [FloatOps F] (main_arg8 : FVec F S768x768 .f32) (main_arg9 : FVec F S768x1024 .f32) (main_arg10 : FVec F S768x1024 .f32) (main_arg11 : FVec F S768 .f32) (main_arg12 : FVec F S768 .f32) (main_arg13 : FVec F S768 .f32) (main_arg14 : FVec F S768x768 .f32) (main_arg15 : FVec F S768 .f32) (main_v31 : IVec S_ 1) (main_v32 : FVec F S768 .f32) (main_cst_12 : FVec F S_ .f32) : IVec S_ 1 :=
  let main_v33 : FVec F S768 .f32 := broadcastInDim S768 ![] bcast_S_S768 main_cst_12
  let main_v34 : IVec S768 1 := cmpf .olt main_v32 main_v33
  let main_c_13 : IVec S_ 1 := constantI S_ 1 1#1
  let main_v35 : IVec S_ 1 := (fun x v => Host.reduce IntOp.andi x v reducesTo_S768_S_d0 h_S_) main_v34 main_c_13
  let main_v36 : IVec S_ 1 := andi main_v31 main_v35
  let main_v37 : FVec F S768x768 .f32 := Host.absf main_arg8
  let main_cst_14 : FVec F S_ .f32 := constant S_ .f32 0x7F800000#32
  let main_v38 : FVec F S768x768 .f32 := broadcastInDim S768x768 ![] bcast_S_S768x768 main_cst_14
  let main_v39 : IVec S768x768 1 := cmpf .olt main_v37 main_v38
  let main_c_15 : IVec S_ 1 := constantI S_ 1 1#1
  let main_v40 : IVec S_ 1 := (fun x v => Host.reduce IntOp.andi x v reducesTo_S768x768_S_d0_1 h_S_) main_v39 main_c_15
  let main_v41 : IVec S_ 1 := andi main_v36 main_v40
  let main_v42 : FVec F S768x1024 .f32 := Host.absf main_arg9
  let main_cst_16 : FVec F S_ .f32 := constant S_ .f32 0x7F800000#32
  let main_v43 : FVec F S768x1024 .f32 := broadcastInDim S768x1024 ![] bcast_S_S768x1024 main_cst_16
  let main_v44 : IVec S768x1024 1 := cmpf .olt main_v42 main_v43
  let main_c_17 : IVec S_ 1 := constantI S_ 1 1#1
  let main_v45 : IVec S_ 1 := (fun x v => Host.reduce IntOp.andi x v reducesTo_S768x1024_S_d0_1 h_S_) main_v44 main_c_17
  let main_v46 : IVec S_ 1 := andi main_v41 main_v45
  let main_v47 : FVec F S768x1024 .f32 := Host.absf main_arg10
  let main_cst_18 : FVec F S_ .f32 := constant S_ .f32 0x7F800000#32
  let main_v48 : FVec F S768x1024 .f32 := broadcastInDim S768x1024 ![] bcast_S_S768x1024 main_cst_18
  let main_v49 : IVec S768x1024 1 := cmpf .olt main_v47 main_v48
  let main_c_19 : IVec S_ 1 := constantI S_ 1 1#1
  fn_part3 (F := F) main_arg11 main_arg12 main_arg13 main_arg14 main_arg15 main_v46 main_v49 main_c_19

def fn_part1 {F : FTy → Type} [FloatOps F] (main_arg2 : FVec F S32x1x1024 .f32) (main_arg3 : FVec F S256x768 .f32) (main_arg4 : FVec F S768 .f32) (main_arg5 : FVec F S768 .f32) (main_arg8 : FVec F S768x768 .f32) (main_arg9 : FVec F S768x1024 .f32) (main_arg10 : FVec F S768x1024 .f32) (main_arg11 : FVec F S768 .f32) (main_arg12 : FVec F S768 .f32) (main_arg13 : FVec F S768 .f32) (main_arg14 : FVec F S768x768 .f32) (main_arg15 : FVec F S768 .f32) (main_v11 : IVec S_ 1) (main_v15 : IVec S_ 1) : IVec S_ 1 :=
  let main_v16 : IVec S_ 1 := andi main_v11 main_v15
  let main_v17 : FVec F S32x1x1024 .f32 := Host.absf main_arg2
  let main_cst_6 : FVec F S_ .f32 := constant S_ .f32 0x7F800000#32
  let main_v18 : FVec F S32x1x1024 .f32 := broadcastInDim S32x1x1024 ![] bcast_S_S32x1x1024 main_cst_6
  let main_v19 : IVec S32x1x1024 1 := cmpf .olt main_v17 main_v18
  let main_c_7 : IVec S_ 1 := constantI S_ 1 1#1
  let main_v20 : IVec S_ 1 := (fun x v => Host.reduce IntOp.andi x v reducesTo_S32x1x1024_S_d0_1_2 h_S_) main_v19 main_c_7
  let main_v21 : IVec S_ 1 := andi main_v16 main_v20
  let main_v22 : FVec F S256x768 .f32 := Host.absf main_arg3
  let main_cst_8 : FVec F S_ .f32 := constant S_ .f32 0x7F800000#32
  let main_v23 : FVec F S256x768 .f32 := broadcastInDim S256x768 ![] bcast_S_S256x768 main_cst_8
  let main_v24 : IVec S256x768 1 := cmpf .olt main_v22 main_v23
  let main_c_9 : IVec S_ 1 := constantI S_ 1 1#1
  let main_v25 : IVec S_ 1 := (fun x v => Host.reduce IntOp.andi x v reducesTo_S256x768_S_d0_1 h_S_) main_v24 main_c_9
  let main_v26 : IVec S_ 1 := andi main_v21 main_v25
  let main_v27 : FVec F S768 .f32 := Host.absf main_arg4
  let main_cst_10 : FVec F S_ .f32 := constant S_ .f32 0x7F800000#32
  let main_v28 : FVec F S768 .f32 := broadcastInDim S768 ![] bcast_S_S768 main_cst_10
  let main_v29 : IVec S768 1 := cmpf .olt main_v27 main_v28
  let main_c_11 : IVec S_ 1 := constantI S_ 1 1#1
  let main_v30 : IVec S_ 1 := (fun x v => Host.reduce IntOp.andi x v reducesTo_S768_S_d0 h_S_) main_v29 main_c_11
  let main_v31 : IVec S_ 1 := andi main_v26 main_v30
  let main_v32 : FVec F S768 .f32 := Host.absf main_arg5
  let main_cst_12 : FVec F S_ .f32 := constant S_ .f32 0x7F800000#32
  fn_part2 (F := F) main_arg8 main_arg9 main_arg10 main_arg11 main_arg12 main_arg13 main_arg14 main_arg15 main_v31 main_v32 main_cst_12

def fn {F : FTy → Type} [FloatOps F] (main_arg0 : FVec F S32x1024x1024 .f32) (main_arg1 : FVec F S32x1024x1 .f32) (main_arg2 : FVec F S32x1x1024 .f32) (main_arg3 : FVec F S256x768 .f32) (main_arg4 : FVec F S768 .f32) (main_arg5 : FVec F S768 .f32) (main_arg6 : FVec F S1024 .f32) (main_arg7 : FVec F S1024 .f32) (main_arg8 : FVec F S768x768 .f32) (main_arg9 : FVec F S768x1024 .f32) (main_arg10 : FVec F S768x1024 .f32) (main_arg11 : FVec F S768 .f32) (main_arg12 : FVec F S768 .f32) (main_arg13 : FVec F S768 .f32) (main_arg14 : FVec F S768x768 .f32) (main_arg15 : FVec F S768 .f32) : IVec S_ 1 :=
  let main_cst : FVec F S_ .f32 := constant S_ .f32 0x3F800000#32
  let main_v0 : FVec F S1024 .f32 := broadcastInDim S1024 ![] bcast_S_S1024 main_cst
  let main_v1 : IVec S1024 1 := cmpf .oeq main_arg6 main_v0
  let main_c : IVec S_ 1 := constantI S_ 1 1#1
  let main_v2 : IVec S_ 1 := (fun x v => Host.reduce IntOp.andi x v reducesTo_S1024_S_d0 h_S_) main_v1 main_c
  let main_cst_0 : FVec F S_ .f32 := constant S_ .f32 0x00000000#32
  let main_v3 : FVec F S1024 .f32 := broadcastInDim S1024 ![] bcast_S_S1024 main_cst_0
  let main_v4 : IVec S1024 1 := cmpf .oeq main_arg7 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_v7 : FVec F S32x1024x1024 .f32 := Host.absf main_arg0
  let main_cst_2 : FVec F S_ .f32 := constant S_ .f32 0x7F800000#32
  let main_v8 : FVec F S32x1024x1024 .f32 := broadcastInDim S32x1024x1024 ![] bcast_S_S32x1024x1024 main_cst_2
  let main_v9 : IVec S32x1024x1024 1 := cmpf .olt main_v7 main_v8
  let main_c_3 : IVec S_ 1 := constantI S_ 1 1#1
  let main_v10 : IVec S_ 1 := (fun x v => Host.reduce IntOp.andi x v reducesTo_S32x1024x1024_S_d0_1_2 h_S_) main_v9 main_c_3
  let main_v11 : IVec S_ 1 := andi main_v6 main_v10
  let main_v12 : FVec F S32x1024x1 .f32 := Host.absf main_arg1
  let main_cst_4 : FVec F S_ .f32 := constant S_ .f32 0x7F800000#32
  let main_v13 : FVec F S32x1024x1 .f32 := broadcastInDim S32x1024x1 ![] bcast_S_S32x1024x1 main_cst_4
  let main_v14 : IVec S32x1024x1 1 := cmpf .olt main_v12 main_v13
  let main_c_5 : IVec S_ 1 := constantI S_ 1 1#1
  let main_v15 : IVec S_ 1 := (fun x v => Host.reduce IntOp.andi x v reducesTo_S32x1024x1_S_d0_1_2 h_S_) main_v14 main_c_5
  fn_part1 (F := F) main_arg2 main_arg3 main_arg4 main_arg5 main_arg8 main_arg9 main_arg10 main_arg11 main_arg12 main_arg13 main_arg14 main_arg15 main_v11 main_v15
-- ==== Kernel.lean ====
abbrev S32x1024x1024 : Shape := ⟨3, ![32, 1024, 1024]⟩
abbrev S32x1024x1 : Shape := ⟨3, ![32, 1024, 1]⟩
abbrev S32x1x1024 : Shape := ⟨3, ![32, 1, 1024]⟩
abbrev S256x768 : Shape := ⟨2, ![256, 768]⟩
abbrev S768 : Shape := ⟨1, ![768]⟩
abbrev S1024 : Shape := ⟨1, ![1024]⟩
abbrev S768x768 : Shape := ⟨2, ![768, 768]⟩
abbrev S768x1024 : Shape := ⟨2, ![768, 1024]⟩
abbrev S768x8x96 : Shape := ⟨3, ![768, 8, 96]⟩
abbrev S_ : Shape := ⟨0, ![]⟩
abbrev S768x8x128 : Shape := ⟨3, ![768, 8, 128]⟩
abbrev S8x96x1024 : Shape := ⟨3, ![8, 96, 1024]⟩
abbrev S8x128x1024 : Shape := ⟨3, ![8, 128, 1024]⟩
abbrev S1024x1024 : Shape := ⟨2, ![1024, 1024]⟩
abbrev S1024x768 : Shape := ⟨2, ![1024, 768]⟩
abbrev S1024x8x96 : Shape := ⟨3, ![1024, 8, 96]⟩
abbrev S1024x8x128 : Shape := ⟨3, ![1024, 8, 128]⟩
abbrev S8x96 : Shape := ⟨2, ![8, 96]⟩
abbrev S8x128 : Shape := ⟨2, ![8, 128]⟩
abbrev S1x1024 : Shape := ⟨2, ![1, 1024]⟩
abbrev S8x96x768 : Shape := ⟨3, ![8, 96, 768]⟩
abbrev S8x128x768 : Shape := ⟨3, ![8, 128, 768]⟩
abbrev S1x768 : Shape := ⟨2, ![1, 768]⟩
abbrev S256x1024 : Shape := ⟨2, ![256, 1024]⟩
abbrev S32x1024 : Shape := ⟨2, ![32, 1024]⟩
abbrev S32x256x768 : Shape := ⟨3, ![32, 256, 768]⟩
abbrev S256 : Shape := ⟨1, ![256]⟩
abbrev S256x1 : Shape := ⟨2, ![256, 1]⟩
abbrev S2x1024x1024 : Shape := ⟨3, ![2, 1024, 1024]⟩
abbrev S2x1x1024 : Shape := ⟨3, ![2, 1, 1024]⟩
abbrev S2x256x768 : Shape := ⟨3, ![2, 256, 768]⟩
abbrev S2x256x1024 : Shape := ⟨3, ![2, 256, 1024]⟩
abbrev S1x1024x1024 : Shape := ⟨3, ![1, 1024, 1024]⟩
abbrev S1024x1 : Shape := ⟨2, ![1024, 1]⟩
abbrev S1x1x1024 : Shape := ⟨3, ![1, 1, 1024]⟩
abbrev S256x128 : Shape := ⟨2, ![256, 128]⟩
abbrev S1x128x1024 : Shape := ⟨3, ![1, 128, 1024]⟩
abbrev S128x1024 : Shape := ⟨2, ![128, 1024]⟩
abbrev S1x1024x128 : Shape := ⟨3, ![1, 1024, 128]⟩
abbrev S1024x128 : Shape := ⟨2, ![1024, 128]⟩
abbrev S1x256x128 : Shape := ⟨3, ![1, 256, 128]⟩
abbrev S1x256x1024 : Shape := ⟨3, ![1, 256, 1024]⟩
abbrev S1x256x768 : Shape := ⟨3, ![1, 256, 768]⟩

abbrev nBuf : Space → Nat
  | .hbm => 62
  | .vmem => 26
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1, .f32⟩
  | .hbm, ⟨2, _⟩ => ⟨S32x1x1024, .f32⟩
  | .hbm, ⟨3, _⟩ => ⟨S256x768, .f32⟩
  | .hbm, ⟨4, _⟩ => ⟨S768, .f32⟩
  | .hbm, ⟨5, _⟩ => ⟨S768, .f32⟩
  | .hbm, ⟨6, _⟩ => ⟨S1024, .f32⟩
  | .hbm, ⟨7, _⟩ => ⟨S1024, .f32⟩
  | .hbm, ⟨8, _⟩ => ⟨S768x768, .f32⟩
  | .hbm, ⟨9, _⟩ => ⟨S768x1024, .f32⟩
  | .hbm, ⟨10, _⟩ => ⟨S768x1024, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768x768, .f32⟩
  | .hbm, ⟨15, _⟩ => ⟨S768, .f32⟩
  | .hbm, ⟨16, _⟩ => ⟨S768x768, .f32⟩
  | .hbm, ⟨17, _⟩ => ⟨S768x8x96, .f32⟩
  | .hbm, ⟨18, _⟩ => ⟨S_, .i32⟩
  | .hbm, ⟨19, _⟩ => ⟨S_, .f32⟩
  | .hbm, ⟨20, _⟩ => ⟨S768x8x128, .f32⟩
  | .hbm, ⟨21, _⟩ => ⟨S768x1024, .f32⟩
  | .hbm, ⟨22, _⟩ => ⟨S768x1024, .bf16⟩
  | .hbm, ⟨23, _⟩ => ⟨S8x96x1024, .f32⟩
  | .hbm, ⟨24, _⟩ => ⟨S_, .i32⟩
  | .hbm, ⟨25, _⟩ => ⟨S_, .f32⟩
  | .hbm, ⟨26, _⟩ => ⟨S8x128x1024, .f32⟩
  | .hbm, ⟨27, _⟩ => ⟨S1024x1024, .f32⟩
  | .hbm, ⟨28, _⟩ => ⟨S1024x1024, .bf16⟩
  | .hbm, ⟨29, _⟩ => ⟨S1024x768, .f32⟩
  | .hbm, ⟨30, _⟩ => ⟨S1024x8x96, .f32⟩
  | .hbm, ⟨31, _⟩ => ⟨S_, .i32⟩
  | .hbm, ⟨32, _⟩ => ⟨S_, .f32⟩
  | .hbm, ⟨33, _⟩ => ⟨S1024x8x128, .f32⟩
  | .hbm, ⟨34, _⟩ => ⟨S1024x1024, .f32⟩
  | .hbm, ⟨35, _⟩ => ⟨S1024x1024, .bf16⟩
  | .hbm, ⟨36, _⟩ => ⟨S8x96, .f32⟩
  | .hbm, ⟨37, _⟩ => ⟨S_, .i32⟩
  | .hbm, ⟨38, _⟩ => ⟨S_, .f32⟩
  | .hbm, ⟨39, _⟩ => ⟨S8x128, .f32⟩
  | .hbm, ⟨40, _⟩ => ⟨S1x1024, .f32⟩
  | .hbm, ⟨41, _⟩ => ⟨S8x96, .f32⟩
  | .hbm, ⟨42, _⟩ => ⟨S_, .i32⟩
  | .hbm, ⟨43, _⟩ => ⟨S_, .f32⟩
  | .hbm, ⟨44, _⟩ => ⟨S8x128, .f32⟩
  | .hbm, ⟨45, _⟩ => ⟨S1x1024, .f32⟩
  | .hbm, ⟨46, _⟩ => ⟨S768x768, .f32⟩
  | .hbm, ⟨47, _⟩ => ⟨S8x96x768, .f32⟩
  | .hbm, ⟨48, _⟩ => ⟨S_, .i32⟩
  | .hbm, ⟨49, _⟩ => ⟨S_, .f32⟩
  | .hbm, ⟨50, _⟩ => ⟨S8x128x768, .f32⟩
  | .hbm, ⟨51, _⟩ => ⟨S1024x768, .f32⟩
  | .hbm, ⟨52, _⟩ => ⟨S1024x768, .bf16⟩
  | .hbm, ⟨53, _⟩ => ⟨S1x768, .f32⟩
  | .hbm, ⟨54, _⟩ => ⟨S1x768, .f32⟩
  | .hbm, ⟨55, _⟩ => ⟨S1x1024, .bf16⟩
  | .hbm, ⟨56, _⟩ => ⟨S1x768, .f32⟩
  | .hbm, ⟨57, _⟩ => ⟨S256x1024, .bf16⟩
  | .hbm, ⟨58, _⟩ => ⟨S1x768, .f32⟩
  | .hbm, ⟨59, _⟩ => ⟨S32x1024, .f32⟩
  | .hbm, ⟨60, _⟩ => ⟨S32x1x1024, .f32⟩
  | .hbm, ⟨61, _⟩ => ⟨S32x256x768, .f32⟩
  | .local _ .vmem, ⟨0, _⟩ => ⟨S256x768, .f32⟩
  | .local _ .vmem, ⟨1, _⟩ => ⟨S1x768, .f32⟩
  | .local _ .vmem, ⟨2, _⟩ => ⟨S1x768, .f32⟩
  | .local _ .vmem, ⟨3, _⟩ => ⟨S768x1024, .bf16⟩
  | .local _ .vmem, ⟨4, _⟩ => ⟨S1x1024, .f32⟩
  | .local _ .vmem, ⟨5, _⟩ => ⟨S1x1024, .bf16⟩
  | .local _ .vmem, ⟨6, _⟩ => ⟨S1024x768, .bf16⟩
  | .local _ .vmem, ⟨7, _⟩ => ⟨S1x768, .f32⟩
  | .local _ .vmem, ⟨8, _⟩ => ⟨S256x1024, .bf16⟩
  | .local _ .vmem, ⟨9, _⟩ => ⟨S1x768, .f32⟩
  | .local _ .vmem, ⟨10, _⟩ => ⟨S2x1024x1024, .f32⟩
  | .local _ .vmem, ⟨11, _⟩ => ⟨S2x1024x1024, .f32⟩
  | .local _ .vmem, ⟨12, _⟩ => ⟨S2x1x1024, .f32⟩
  | .local _ .vmem, ⟨13, _⟩ => ⟨S2x1x1024, .f32⟩
  | .local _ .vmem, ⟨14, _⟩ => ⟨S2x1x1024, .f32⟩
  | .local _ .vmem, ⟨15, _⟩ => ⟨S2x1x1024, .f32⟩
  | .local _ .vmem, ⟨16, _⟩ => ⟨S256x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x768, .bf16⟩
  | .local _ .vmem, ⟨20, _⟩ => ⟨S1x768, .f32⟩
  | .local _ .vmem, ⟨21, _⟩ => ⟨S2x256x768, .f32⟩
  | .local _ .vmem, ⟨22, _⟩ => ⟨S2x256x768, .f32⟩
  | .local _ .vmem, ⟨23, _⟩ => ⟨S2x1024x1024, .bf16⟩
  | .local _ .vmem, ⟨24, _⟩ => ⟨S2x1024x1024, .bf16⟩
  | .local _ .vmem, ⟨25, _⟩ => ⟨S2x256x1024, .bf16⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_c : Ref sig .tc := ⟨.hbm, 18, rfl⟩
abbrev main_call0_call0_v0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_0 : Ref sig .tc := ⟨.hbm, 24, rfl⟩
abbrev main_call0_call1_v0 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c_1 : Ref sig .tc := ⟨.hbm, 31, rfl⟩
abbrev main_call0_call2_v0 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_c_2 : Ref sig .tc := ⟨.hbm, 37, rfl⟩
abbrev main_call0_call3_v0 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_c_3 : Ref sig .tc := ⟨.hbm, 42, rfl⟩
abbrev main_call0_call4_v0 : Ref sig .tc := ⟨.hbm, 43, rfl⟩
abbrev main_call0_v18 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_call0_c_4 : Ref sig .tc := ⟨.hbm, 48, rfl⟩
abbrev main_call0_call5_v0 : Ref sig .tc := ⟨.hbm, 49, rfl⟩
abbrev main_call0_v22 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_v26 : Ref sig .tc := ⟨.hbm, 54, rfl⟩
abbrev main_call0_v27 : Ref sig .tc := ⟨.hbm, 55, rfl⟩
abbrev main_call0_v28 : Ref sig .tc := ⟨.hbm, 56, rfl⟩
abbrev main_call0_v29_0 : Ref sig .tc := ⟨.hbm, 57, rfl⟩
abbrev main_call0_v29_1 : Ref sig .tc := ⟨.hbm, 58, rfl⟩
abbrev main_call0_v30 : Ref sig .tc := ⟨.hbm, 59, rfl⟩
abbrev main_call0_v31 : Ref sig .tc := ⟨.hbm, 60, rfl⟩
abbrev main_v0 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := .none

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x768 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2x256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "log2e" => some (((Real.log 2)⁻¹ : ℝ) : EReal)
  | "qscale" => some (((Real.log 2)⁻¹ * (Real.sqrt 96)⁻¹ : ℝ) : EReal)
  | _ => none
-- ==== ReferenceIdeal.lean ====
abbrev S32x1024x1024 : Shape := ⟨3, ![32, 1024, 1024]⟩
abbrev S32x1024x1 : Shape := ⟨3, ![32, 1024, 1]⟩
abbrev S32x1x1024 : Shape := ⟨3, ![32, 1, 1024]⟩
abbrev S256x768 : Shape := ⟨2, ![256, 768]⟩
abbrev S768 : Shape := ⟨1, ![768]⟩
abbrev S1024 : Shape := ⟨1, ![1024]⟩
abbrev S768x768 : Shape := ⟨2, ![768, 768]⟩
abbrev S768x1024 : Shape := ⟨2, ![768, 1024]⟩
abbrev S_ : Shape := ⟨0, ![]⟩
abbrev S32x1024 : Shape := ⟨2, ![32, 1024]⟩
abbrev S1x1x1024 : Shape := ⟨3, ![1, 1, 1024]⟩
abbrev S256 : Shape := ⟨1, ![256]⟩
abbrev S256x1 : Shape := ⟨2, ![256, 1]⟩
abbrev S1x768 : Shape := ⟨2, ![1, 768]⟩
abbrev S256x8x96 : Shape := ⟨3, ![256, 8, 96]⟩
abbrev S1024x768 : Shape := ⟨2, ![1024, 768]⟩
abbrev S32x1024x768 : Shape := ⟨3, ![32, 1024, 768]⟩
abbrev S1x1x768 : Shape := ⟨3, ![1, 1, 768]⟩
abbrev S32x1024x8x96 : Shape := ⟨4, ![32, 1024, 8, 96]⟩
abbrev S8x32x1024x256 : Shape := ⟨4, ![8, 32, 1024, 256]⟩
abbrev S32x8x256x1024 : Shape := ⟨4, ![32, 8, 256, 1024]⟩
abbrev S32x1x1x1024 : Shape := ⟨4, ![32, 1, 1, 1024]⟩
abbrev S32x8x256 : Shape := ⟨3, ![32, 8, 256]⟩
abbrev S32x8x256x1 : Shape := ⟨4, ![32, 8, 256, 1]⟩
abbrev S32x8x96x256 : Shape := ⟨4, ![32, 8, 96, 256]⟩
abbrev S32x256x8x96 : Shape := ⟨4, ![32, 256, 8, 96]⟩
abbrev S32x256x768 : Shape := ⟨3, ![32, 256, 768]⟩

abbrev nBuf : Space → Nat
  | .hbm => 165
  | .vmem => 0
  | .smem => 0
  | _ => 0

abbrev hbmTy0_0 (i : Nat) : BufTy := match i % 128 with
  | 0 => ⟨S32x1024x1024, .f32⟩
  | 1 => ⟨S32x1024x1, .f32⟩
  | 2 => ⟨S32x1x1024, .f32⟩
  | 3 => ⟨S256x768, .f32⟩
  | 4 => ⟨S768, .f32⟩
  | 5 => ⟨S768, .f32⟩
  | 6 => ⟨S1024, .f32⟩
  | 7 => ⟨S1024, .f32⟩
  | 8 => ⟨S768x768, .f32⟩
  | 9 => ⟨S768x1024, .f32⟩
  | 10 => ⟨S768x1024, .f32⟩
  | 11 => ⟨S768, .f32⟩
  | 12 => ⟨S768, .f32⟩
  | 13 => ⟨S768, .f32⟩
  | 14 => ⟨S768x768, .f32⟩
  | 15 => ⟨S768, .f32⟩
  | 16 => ⟨S_, .f32⟩
  | 17 => ⟨S32x1024, .f32⟩
  | 18 => ⟨S32x1024x1, .f32⟩
  | 19 => ⟨S_, .f32⟩
  | 20 => ⟨S32x1024x1, .f32⟩
  | 21 => ⟨S32x1024x1, .f32⟩
  | 22 => ⟨S_, .i32⟩
  | 23 => ⟨S_, .f32⟩
  | 24 => ⟨S32x1024, .f32⟩
  | 25 => ⟨S32x1024x1, .f32⟩
  | 26 => ⟨S_, .f32⟩
  | 27 => ⟨S32x1024x1, .f32⟩
  | 28 => ⟨S32x1024x1, .f32⟩
  | 29 => ⟨S32x1024x1024, .f32⟩
  | 30 => ⟨S32x1024x1024, .f32⟩
  | 31 => ⟨S32x1024x1024, .f32⟩
  | 32 => ⟨S_, .f32⟩
  | 33 => ⟨S_, .f32⟩
  | 34 => ⟨S_, .f32⟩
  | 35 => ⟨S_, .f32⟩
  | 36 => ⟨S32x1024, .f32⟩
  | 37 => ⟨S32x1024x1, .f32⟩
  | 38 => ⟨S32x1024x1, .f32⟩
  | 39 => ⟨S32x1024x1, .f32⟩
  | 40 => ⟨S_, .f32⟩
  | 41 => ⟨S_, .i1⟩
  | 42 => ⟨S_, .f32⟩
  | 43 => ⟨S_, .f32⟩
  | 44 => ⟨S32x1024x1, .f32⟩
  | 45 => ⟨S32x1024x1, .f32⟩
  | 46 => ⟨S32x1024x1024, .f32⟩
  | 47 => ⟨S32x1024x1024, .f32⟩
  | 48 => ⟨S_, .f32⟩
  | 49 => ⟨S32x1024x1, .f32⟩
  | 50 => ⟨S32x1024x1, .f32⟩
  | 51 => ⟨S32x1024x1, .f32⟩
  | 52 => ⟨S32x1024x1024, .f32⟩
  | 53 => ⟨S32x1024x1024, .f32⟩
  | 54 => ⟨S1x1x1024, .f32⟩
  | 55 => ⟨S32x1024x1024, .f32⟩
  | 56 => ⟨S32x1024x1024, .f32⟩
  | 57 => ⟨S1x1x1024, .f32⟩
  | 58 => ⟨S32x1024x1024, .f32⟩
  | 59 => ⟨S32x1024x1024, .f32⟩
  | 60 => ⟨S_, .f32⟩
  | 61 => ⟨S256, .f32⟩
  | 62 => ⟨S256x1, .f32⟩
  | 63 => ⟨S_, .f32⟩
  | 64 => ⟨S256x1, .f32⟩
  | 65 => ⟨S256x1, .f32⟩
  | 66 => ⟨S_, .i32⟩
  | 67 => ⟨S_, .f32⟩
  | 68 => ⟨S256, .f32⟩
  | 69 => ⟨S256x1, .f32⟩
  | 70 => ⟨S_, .f32⟩
  | 71 => ⟨S256x1, .f32⟩
  | 72 => ⟨S256x1, .f32⟩
  | 73 => ⟨S256x768, .f32⟩
  | 74 => ⟨S256x768, .f32⟩
  | 75 => ⟨S256x768, .f32⟩
  | 76 => ⟨S_, .f32⟩
  | 77 => ⟨S_, .f32⟩
  | 78 => ⟨S_, .f32⟩
  | 79 => ⟨S_, .f32⟩
  | 80 => ⟨S256, .f32⟩
  | 81 => ⟨S256x1, .f32⟩
  | 82 => ⟨S256x1, .f32⟩
  | 83 => ⟨S256x1, .f32⟩
  | 84 => ⟨S_, .f32⟩
  | 85 => ⟨S_, .i1⟩
  | 86 => ⟨S_, .f32⟩
  | 87 => ⟨S_, .f32⟩
  | 88 => ⟨S256x1, .f32⟩
  | 89 => ⟨S256x1, .f32⟩
  | 90 => ⟨S256x768, .f32⟩
  | 91 => ⟨S256x768, .f32⟩
  | 92 => ⟨S_, .f32⟩
  | 93 => ⟨S256x1, .f32⟩
  | 94 => ⟨S256x1, .f32⟩
  | 95 => ⟨S256x1, .f32⟩
  | 96 => ⟨S256x768, .f32⟩
  | 97 => ⟨S256x768, .f32⟩
  | 98 => ⟨S1x768, .f32⟩
  | 99 => ⟨S256x768, .f32⟩
  | 100 => ⟨S256x768, .f32⟩
  | 101 => ⟨S1x768, .f32⟩
  | 102 => ⟨S256x768, .f32⟩
  | 103 => ⟨S256x768, .f32⟩
  | 104 => ⟨S_, .f32⟩
  | 105 => ⟨S32x1024x1, .f32⟩
  | 106 => ⟨S32x1024x1, .i1⟩
  | 107 => ⟨S_, .f32⟩
  | 108 => ⟨S32x1024x1, .f32⟩
  | 109 => ⟨S32x1024x1, .f32⟩
  | 110 => ⟨S32x1024x1, .f32⟩
  | 111 => ⟨S32x1024, .f32⟩
  | 112 => ⟨S32x1x1024, .f32⟩
  | 113 => ⟨S32x1x1024, .f32⟩
  | 114 => ⟨S768x768, .f32⟩
  | 115 => ⟨S256x768, .f32⟩
  | 116 => ⟨S1x768, .f32⟩
  | 117 => ⟨S256x768, .f32⟩
  | 118 => ⟨S256x768, .f32⟩
  | 119 => ⟨S256x8x96, .f32⟩
  | 120 => ⟨S1024x768, .f32⟩
  | 121 => ⟨S32x1024x768, .f32⟩
  | 122 => ⟨S1x1x768, .f32⟩
  | 123 => ⟨S32x1024x768, .f32⟩
  | 124 => ⟨S32x1024x768, .f32⟩
  | 125 => ⟨S32x1024x8x96, .f32⟩
  | 126 => ⟨S1024x768, .f32⟩
  | 127 => ⟨S32x1024x768, .f32⟩
  | _ => ⟨S32x1024x1024, .f32⟩

abbrev hbmTy0_1 (i : Nat) : BufTy := match i % 128 with
  | 0 => ⟨S1x1x768, .f32⟩
  | 1 => ⟨S32x1024x768, .f32⟩
  | 2 => ⟨S32x1024x768, .f32⟩
  | 3 => ⟨S32x1024x8x96, .f32⟩
  | 4 => ⟨S_, .f32⟩
  | 5 => ⟨S_, .f32⟩
  | 6 => ⟨S_, .f32⟩
  | 7 => ⟨S_, .f32⟩
  | 8 => ⟨S256x8x96, .f32⟩
  | 9 => ⟨S256x8x96, .f32⟩
  | 10 => ⟨S8x32x1024x256, .f32⟩
  | 11 => ⟨S32x8x256x1024, .f32⟩
  | 12 => ⟨S32x1x1x1024, .f32⟩
  | 13 => ⟨S32x8x256x1024, .f32⟩
  | 14 => ⟨S32x8x256x1024, .f32⟩
  | 15 => ⟨S_, .f32⟩
  | 16 => ⟨S32x8x256, .f32⟩
  | 17 => ⟨S_, .f32⟩
  | 18 => ⟨S32x8x256, .f32⟩
  | 19 => ⟨S32x8x256, .f32⟩
  | 20 => ⟨S32x8x256x1, .f32⟩
  | 21 => ⟨S32x8x256x1024, .f32⟩
  | 22 => ⟨S32x8x256x1024, .f32⟩
  | 23 => ⟨S32x8x256x1024, .f32⟩
  | 24 => ⟨S_, .f32⟩
  | 25 => ⟨S32x8x256, .f32⟩
  | 26 => ⟨S32x8x256x1, .f32⟩
  | 27 => ⟨S32x8x256x1024, .f32⟩
  | 28 => ⟨S32x8x256x1024, .f32⟩
  | 29 => ⟨S32x8x96x256, .f32⟩
  | 30 => ⟨S32x256x8x96, .f32⟩
  | 31 => ⟨S32x256x768, .f32⟩
  | 32 => ⟨S768x768, .f32⟩
  | 33 => ⟨S32x256x768, .f32⟩
  | 34 => ⟨S1x1x768, .f32⟩
  | 35 => ⟨S32x256x768, .f32⟩
  | 36 => ⟨S32x256x768, .f32⟩
  | _ => ⟨S32x1024x1024, .f32⟩

abbrev hbmTy (i : Nat) : BufTy := match i / 128 with
  | 0 => hbmTy0_0 i
  | 1 => hbmTy0_1 i
  | _ => ⟨S32x1024x1024, .f32⟩

abbrev bufTy : (tb : Table) → Fin (tcTables nBuf tb) → BufTy
  | .hbm, ⟨i, _⟩ => hbmTy i
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst_1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_2 : Ref sig .tc := ⟨.hbm, 60, rfl⟩
abbrev main_v18 : Ref sig .tc := ⟨.hbm, 61, rfl⟩
abbrev main_v19 : Ref sig .tc := ⟨.hbm, 62, rfl⟩
abbrev main_cst_3 : Ref sig .tc := ⟨.hbm, 63, rfl⟩
abbrev main_v20 : Ref sig .tc := ⟨.hbm, 64, rfl⟩
abbrev main_v21 : Ref sig .tc := ⟨.hbm, 65, rfl⟩
abbrev main_c_4 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_cst_3 : Ref sig .tc := ⟨.hbm, 84, rfl⟩
abbrev main_call1_v13 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_cst_5 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_cst_6 : Ref sig .tc := ⟨.hbm, 104, rfl⟩
abbrev main_v36 : Ref sig .tc := ⟨.hbm, 105, rfl⟩
abbrev main_v37 : Ref sig .tc := ⟨.hbm, 106, rfl⟩
abbrev main_cst_7 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_8 : Ref sig .tc := ⟨.hbm, 132, rfl⟩
abbrev main_v62 : Ref sig .tc := ⟨.hbm, 133, rfl⟩
abbrev main_cst_9 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_10 : Ref sig .tc := ⟨.hbm, 143, rfl⟩
abbrev main_v71 : Ref sig .tc := ⟨.hbm, 144, rfl⟩
abbrev main_cst_11 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_cst_12 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩

abbrev nD : Nat := 1
abbrev τ : Topo := Topo.v7x

variable {F : FTy → Type} [FloatOps F]
-- ==== Proof.KernelRun.lean ====
/- The kernel's run with its result named: what the launch leaves in the result array is the second region's output array (`W4`), the sixteen
   arguments end as they were, and every semaphore counter ends at zero. The launch's set-up follows the generated frame's. -/
module

public import proofs.«01_k».proof.Proof.Gen.KernelIdeal.Frame

@[expose] public section

noncomputable section

namespace Cert.KernelRun

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From zero counters every weakly fair execution of the kernel ends with every array of the main memory at `W4` of the launch contents, and with
    every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The kernel's arguments. -/
abbrev args : List (Ref sig .tc) := [main_arg0, main_arg1, main_arg2, main_arg3, main_arg4, main_arg5, main_arg6, main_arg7, main_arg8, main_arg9, main_arg10, main_arg11, main_arg12, main_arg13, main_arg14, main_arg15]

/-- An argument is an array of the main memory. -/
theorem args_unscoped : ∀ a ∈ args, ¬ (Proc.devRef .tc a : DevRef τ sig).isScoped := by decide

/-- From zero counters every weakly fair execution of the kernel ends with the result array at the second region's output, each argument as it was,
    and every counter at zero. -/
theorem run : θ_run defs (onTc (τ := τ) (main (F := F))) ⟨m, fun _ => 0, ρ⟩ (fun r =>
      (∀ c : Dev nD, r.2.mem ((c.tc : Thread nD τ).loc main_v0) = (dat1 (V3 m ρ) c).arrAt 8 cfg1.N
        ∧ ∀ a ∈ args, r.2.mem ((c.tc : Thread nD τ).loc a) = m ((c.tc : Thread nD τ).loc a)) ∧ r.2.sem = fun _ => 0) :=
  (θ_run defs _ _).mono (fun _ h => ⟨fun c => ⟨(h.1 c _ (mem_uc main_v0 (by decide))).trans (W4_arr m ρ c 8),
    fun a ha => (h.1 c _ (mem_uc a (args_unscoped a ha))).trans (W4_args m ρ c a ha)⟩, h.2⟩) (run_all m ρ)

end Cert.KernelRun

end
-- ==== Proof.Body.lean ====
/- What one grid point of the pooling kernel computes, as one function of its input blocks: the stores into the scratch buffers and into the
   output block are read back, so that no memory is left in the statement. A grid point treats two sequences, `i : Fin 2`, by the same steps. -/
module

public import proofs.«01_k».proof.Proof.Gen.KernelIdeal.Frame
public import Idealize.ShloMosaic.Lib.Pipeline.Value
public import Idealize.ShloMosaic.Lib.Pipeline.ValueKit.Tiles
public import Idealize.ShloMosaic.Lib.Pointwise

@[expose] public section

noncomputable section

namespace Cert.Body

open Cert.KernelIdeal Cert.KernelIdeal.Gen Idealize.ShloMosaic Idealize.ShloMosaic.TcCoe Idealize.SL.Sem

variable {F : FTy → Type} [FloatOps F] [Named F]

/-- Slab `i` of a pair of matrices. -/
abbrev slabR (A B : ℕ) (i : Fin 2) : Rect (⟨3, ![2, A, B]⟩ : Shape) :=
  Rect.unit ![i.val, 0, 0] ![1, A, B] (by intro a; fin_cases a <;> simp; omega)

/-- The 128 columns of head `h` in a matrix of 1024 columns. -/
abbrev colsR (A : ℕ) (h : Fin 8) : Rect (⟨2, ![A, 1024]⟩ : Shape) :=
  Rect.unit ![0, 128 * h.val] ![A, 128] (by intro a; fin_cases a <;> simp; omega)

/-- The 128 columns of head `h` in slab `i` of a pair of matrices of 1024 columns. -/
abbrev slabColsR (A : ℕ) (i : Fin 2) (h : Fin 8) : Rect (⟨3, ![2, A, 1024]⟩ : Shape) :=
  Rect.unit ![i.val, 0, 128 * h.val] ![1, A, 128] (by intro a; fin_cases a <;> simp <;> omega)

/-- The 128 rows of head `h` in slab `i` of a pair of matrices of 1024 rows. -/
abbrev slabRowsR (B : ℕ) (i : Fin 2) (h : Fin 8) : Rect (⟨3, ![2, 1024, B]⟩ : Shape) :=
  Rect.unit ![i.val, 128 * h.val, 0] ![1, 128, B] (by intro a; fin_cases a <;> simp <;> omega)

/-- The keys of both sequences, transposed: one row a key column, one column a position. -/
def keys (x : Vec F S2x1024x1024 .f32) (wk : Vec F S1024x1024 .bf16) : Vec F S2x1024x1024 .bf16 :=
  fun y => k1_pay3 (View.ld x (slabR 1024 1024 (y 0))) wk (ix3 0 (y 1) (y 2))

/-- The values of both sequences: one row a position, one column a value column. -/
def vals (x : Vec F S2x1024x1024 .f32) (wv : Vec F S1024x1024 .bf16) : Vec F S2x1024x1024 .bf16 :=
  fun y => k1_pay4 (View.ld x (slabR 1024 1024 (y 0))) wv (ix3 0 (y 1) (y 2))

/-- The score bias of sequence `i`, one entry a position. -/
def bias (size mask : Vec F S2x1x1024 .f32) (i : Fin 2) : FVec F S1x1024 .f32 :=
  k1_pay5 (View.ld size (slabR 1 1024 i)) (View.ld mask (slabR 1 1024 i))

/-- What head `h` yields for sequence `i`: its 128 columns of the weighted values. -/
def head (x : Vec F S2x1024x1024 .f32) (size mask : Vec F S2x1x1024 .f32) (q : Vec F S256x1024 .bf16) (wk wv : Vec F S1024x1024 .bf16)
    (i : Fin 2) (h : Fin 8) : FVec F S1x256x128 .bf16 :=
  k1_pay14 (bias size mask i) (View.ld q (colsR 256 h)) (View.ld (keys x wk) (slabRowsR 1024 i h)) (View.ld (vals x wv) (slabColsR 1024 i h))

/-- The weighted values of both sequences, the heads side by side. -/
def heads (x : Vec F S2x1024x1024 .f32) (size mask : Vec F S2x1x1024 .f32) (q : Vec F S256x1024 .bf16) (wk wv : Vec F S1024x1024 .bf16) :
    Vec F S2x256x1024 .bf16 :=
  fun y => head x size mask q wk wv (y 0) ⟨(y 2).val / 128, by have := (y 2).isLt; simp at this; omega⟩
    (ix3 0 (y 1) ⟨(y 2).val % 128, Nat.mod_lt _ (by norm_num)⟩)

/-- The output block: each sequence's weighted values through the output projection. -/
def block (x : Vec F S2x1024x1024 .f32) (size mask : Vec F S2x1x1024 .f32) (q : Vec F S256x1024 .bf16) (wk wv : Vec F S1024x1024 .bf16)
    (wo : Vec F S1024x768 .bf16) (bo : Vec F S1x768 .f32) : Vec F S2x256x768 .f32 :=
  fun y => k1_pay28 (View.ld (heads x size mask q wk wv) (slabR 256 1024 (y 0))) wo bo (ix3 0 (y 1) (y 2))

/-- What a rectangle's index names lies in it. -/
theorem mem_emb {s : Shape} (r : Rect s) (x : r.shape.Idx) : r.emb x ∈ r.set := by
  rw [← Rect.map_emb_univ]
  exact Finset.mem_map_of_mem _ (Finset.mem_univ _)

/-- Two slabs that are stored one after the other, each slab `i` of `G`, leave `G`. -/
theorem canon_slabs {A B : ℕ} {e : EltTy} (G : (⟨3, ![2, A, B]⟩ : Shape).Idx → Elt F e) (p : Fin 2 → (⟨3, ![1, A, B]⟩ : Shape).Idx → Elt F e)
    (h : ∀ (i : Fin 2) (a : Fin A) (b : Fin B), G (ix3 i a b) = p i (ix3 0 a b)) :
    View.canon [(⟨slabR A B 1, p 1⟩ : View.Piece (Elt F) (⟨3, ![2, A, B]⟩ : Shape) e), ⟨slabR A B 0, p 0⟩] = G := by
  have piece : ∀ (i : Fin 2) (x : (⟨3, ![1, A, B]⟩ : Shape).Idx), p i x = G ((slabR A B i).emb x) := by
    intro i x
    have e1 : (slabR A B i).emb x = ix3 i (x 1) (x 2) := by
      funext a; apply Fin.ext
      refine (Rect.idx_unit_val _ _ _ x a).trans ?_
      fin_cases a <;> simp
      have := (x 0).isLt; simp at this; omega
    refine Eq.trans (congrArg (p i) ?_) ((congrArg G e1).trans (h i (x 1) (x 2))).symm
    funext a; fin_cases a
    · apply Fin.ext; have := (x 0).isLt; simp at this; simp; omega
    · rfl
    · rfl
  funext y
  refine View.canon_apply_of_pieces G _ ?_ y ?_
  · intro q hq x
    simp only [List.mem_cons, List.not_mem_nil, or_false] at hq
    rcases hq with rfl | rfl
    · exact piece 1 x
    · exact piece 0 x
  · have hm : ∀ i : Fin 2, y 0 = i → y ∈ (slabR A B i).set := by
      intro i hi
      have e2 : (slabR A B i).emb (ix3 0 (y 1) (y 2)) = y := by
        funext a; apply Fin.ext
        refine (Rect.idx_unit_val _ _ _ _ a).trans ?_
        fin_cases a <;> simp [← hi]
      have hs := mem_emb (slabR A B i) (ix3 0 (y 1) (y 2))
      rw [e2] at hs
      exact hs
    have h01 : y 0 = (1 : Fin 2) ∨ y 0 = (0 : Fin 2) := by
      have := (y 0).isLt; simp at this
      rcases (by omega : (y 0).val = 1 ∨ (y 0).val = 0) with h | h
      · exact .inl (Fin.ext h)
      · exact .inr (Fin.ext h)
    rcases h01 with h | h
    · exact ⟨_, List.mem_cons_self, hm 1 h⟩
    · exact ⟨_, List.mem_cons_of_mem _ List.mem_cons_self, hm 0 h⟩

/-- The stores of the heads' columns, one for each pair of a sequence and a head. -/
def headPieces (L : List (Fin 2 × Fin 8)) (p : Fin 2 → Fin 8 → FVec F S1x256x128 .bf16) : List (View.Piece (Elt F) S2x256x1024 .bf16) :=
  L.map fun ih => ⟨slabColsR 256 ih.1 ih.2, p ih.1 ih.2⟩

/-- The heads of the first sequence, the last first. -/
abbrev first8 : List (Fin 2 × Fin 8) := [(0, 7), (0, 6), (0, 5), (0, 4), (0, 3), (0, 2), (0, 1), (0, 0)]

/-- The heads of both sequences, the last first. -/
abbrev all16 : List (Fin 2 × Fin 8) := [(1, 7), (1, 6), (1, 5), (1, 4), (1, 3), (1, 2), (1, 1), (1, 0)] ++ first8

/-- The stores leave the heads side by side, where they store. -/
theorem canon_headPieces (L : List (Fin 2 × Fin 8)) (p : Fin 2 → Fin 8 → FVec F S1x256x128 .bf16) (y : S2x256x1024.Idx)
    (hL : ∀ h : Fin 8, ((y 0 : Fin 2), h) ∈ L) :
    (View.canon (headPieces L p) y : F .bf16) = p (y 0) ⟨(y 2).val / 128, by have := (y 2).isLt; simp at this; omega⟩
      (ix3 0 (y 1) ⟨(y 2).val % 128, Nat.mod_lt _ (by norm_num)⟩) := by
  refine View.canon_apply_of_pieces (Val := Elt F) (e := .bf16) (fun y : S2x256x1024.Idx =>
      (p (y 0) ⟨(y 2).val / 128, by have := (y 2).isLt; simp at this; omega⟩
        (ix3 0 (y 1) ⟨(y 2).val % 128, Nat.mod_lt _ (by norm_num)⟩) : F .bf16)) _ ?_ y ?_
  · intro q hq x
    obtain ⟨⟨i, h⟩, -, rfl⟩ := List.mem_map.mp hq
    have e1 : (slabColsR 256 i h).emb x = ix3 i (x 1) ⟨128 * h.val + (x 2).val, by have := (x 2).isLt; simp at this; omega⟩ := by
      funext a; apply Fin.ext
      refine (Rect.idx_unit_val _ _ _ x a).trans ?_
      fin_cases a <;> simp
      have := (x 0).isLt; simp at this; omega
    have h2 : (x 2).val < 128 := (x 2).isLt
    have h0 : (x 0).val < 1 := (x 0).isLt
    show p i h x = _
    simp only [e1]
    have eh : (⟨(128 * h.val + (x 2).val) / 128, by omega⟩ : Fin 8) = h := Fin.ext (by show (128 * h.val + (x 2).val) / 128 = h.val; omega)
    have ex : x = ix3 0 (x 1) ⟨(128 * h.val + (x 2).val) % 128, Nat.mod_lt _ (by norm_num)⟩ := by
      funext a; fin_cases a
      · apply Fin.ext; simp; omega
      · rfl
      · apply Fin.ext; show (x 2).val = (128 * h.val + (x 2).val) % 128; omega
    exact (congrArg (p i h) ex).trans (congrArg (fun k => p i k (ix3 0 (x 1) ⟨(128 * h.val + (x 2).val) % 128, Nat.mod_lt _ (by norm_num)⟩)) eh.symm)
  · have hy : (y 2).val < 1024 := (y 2).isLt
    refine ⟨⟨slabColsR 256 (y 0) ⟨(y 2).val / 128, by omega⟩, p (y 0) ⟨(y 2).val / 128, by omega⟩⟩, List.mem_map.mpr
      ⟨((y 0), ⟨(y 2).val / 128, by omega⟩), hL _, rfl⟩, ?_⟩
    · have e2 : (slabColsR 256 (y 0) ⟨(y 2).val / 128, by omega⟩).emb (ix3 0 (y 1) ⟨(y 2).val % 128, Nat.mod_lt _ (by norm_num)⟩) = y := by
        funext a; apply Fin.ext
        refine (Rect.idx_unit_val _ _ _ _ a).trans ?_
        fin_cases a <;> simp
        omega
      have hs := mem_emb (slabColsR 256 (y 0) ⟨(y 2).val / 128, by omega⟩) (ix3 0 (y 1) ⟨(y 2).val % 128, Nat.mod_lt _ (by norm_num)⟩)
      rw [e2] at hs
      exact hs

section Run

variable (c : Dev nD) (i : grid1.Coords)
  (arg1 : Memref sig .tc .vmem S2x1024x1024 .f32) (harg1 : arg1.IsWhole) (arg2 : Memref sig .tc .vmem S2x1x1024 .f32) (harg2 : arg2.IsWhole)
  (arg3 : Memref sig .tc .vmem S2x1x1024 .f32) (harg3 : arg3.IsWhole) (arg4 : Memref sig .tc .vmem S256x1024 .bf16) (harg4 : arg4.IsWhole)
  (arg5 : Memref sig .tc .vmem S1024x1024 .bf16) (harg5 : arg5.IsWhole) (arg6 : Memref sig .tc .vmem S1024x1024 .bf16) (harg6 : arg6.IsWhole)
  (arg7 : Memref sig .tc .vmem S1024x768 .bf16) (harg7 : arg7.IsWhole) (arg8 : Memref sig .tc .vmem S1x768 .f32) (harg8 : arg8.IsWhole)
  (arg9 : Memref sig .tc .vmem S2x256x768 .f32) (harg9 : arg9.IsWhole) (arg10 : Memref sig .tc .vmem S2x1024x1024 .bf16) (harg10 : arg10.IsWhole)
  (arg11 : Memref sig .tc .vmem S2x1024x1024 .bf16) (harg11 : arg11.IsWhole) (arg12 : Memref sig .tc .vmem S2x256x1024 .bf16) (harg12 : arg12.IsWhole)
  (x0 : Vec F S2x1024x1024 .f32) (x1 x2 : Vec F S2x1x1024 .f32) (x3 : Vec F S256x1024 .bf16) (x4 x5 : Vec F S1024x1024 .bf16)
  (x6 : Vec F S1024x768 .bf16) (x7 : Vec F S1x768 .f32)

/-- A load of part of a whole buffer reads its contents there. -/
theorem readAt_whole {s : Shape} {e : EltTy} {m : Memref sig .tc .vmem s e} (h : m.IsWhole) (X : s.Idx → Elt F e) (r : Rect s) :
    View.readAt (Elt F) m.view r.toLoadRect (h.unread X) = View.ld X r := by
  rw [View.readAt_eq_ld, h.read_unread]

/-- A load of a whole matrix reads the matrix. -/
theorem readAt_full2 {A B : ℕ} {e : EltTy} {m : Memref sig .tc .vmem (⟨2, ![A, B]⟩ : Shape) e} (h : m.IsWhole)
    (X : (⟨2, ![A, B]⟩ : Shape).Idx → Elt F e) (inb) :
    View.readAt (Elt F) m.view (Rect.unit (s := (⟨2, ![A, B]⟩ : Shape)) ![0, 0] ![A, B] inb).toLoadRect (h.unread X) = X := by
  rw [readAt_whole]
  exact View.ld_unit_zero (S := (⟨2, ![A, B]⟩ : Shape)) (by funext a; fin_cases a <;> rfl) inb X

/-- A load after stores reads what the stores leave. -/
theorem readCov_ld {s : Shape} {e : EltTy} (v : View sig .tc .vmem s e) (L : List (View.Piece (Elt F) s e)) (r : Rect s) :
    v.readCov L r.toLoadRect = View.ld (View.canon L) r := View.readCov_eq_canon' v L _

/-- The stores of the keys leave the keys. -/
theorem canon_keys : View.canon (kernelRun1_A.sl.HS0_2 c arg1 harg1 arg5 harg5 x0 x4) = keys x0 x4 := by
  have e : kernelRun1_A.sl.HS0_2 c arg1 harg1 arg5 harg5 x0 x4
      = [(⟨slabR 1024 1024 1, k1_pay3 (View.readAt (Elt F) arg1.view (slabR 1024 1024 1).toLoadRect (harg1.unread x0)) (View.readAt (Elt F) arg5.view (Rect.unit ![0, 0] S1024x1024.size inb_S1024x1024_S1024x1024_0_0).toLoadRect (harg5.unread x4))⟩ : View.Piece (Elt F) S2x1024x1024 .bf16),
         ⟨slabR 1024 1024 0, k1_pay3 (View.readAt (Elt F) arg1.view (slabR 1024 1024 0).toLoadRect (harg1.unread x0)) (View.readAt (Elt F) arg5.view (Rect.unit ![0, 0] S1024x1024.size inb_S1024x1024_S1024x1024_0_0).toLoadRect (harg5.unread x4))⟩] := rfl
  rw [e, readAt_full2, readAt_whole, readAt_whole]
  exact canon_slabs (keys x0 x4) (fun i => k1_pay3 (View.ld x0 (slabR 1024 1024 i)) x4) fun _ _ _ => rfl

/-- The stores of the values leave the values. -/
theorem canon_vals : View.canon (kernelRun1_A.sl.HS1_2 c arg1 harg1 arg6 harg6 x0 x5) = vals x0 x5 := by
  have e : kernelRun1_A.sl.HS1_2 c arg1 harg1 arg6 harg6 x0 x5
      = [(⟨slabR 1024 1024 1, k1_pay4 (View.readAt (Elt F) arg1.view (slabR 1024 1024 1).toLoadRect (harg1.unread x0)) (View.readAt (Elt F) arg6.view (Rect.unit ![0, 0] S1024x1024.size inb_S1024x1024_S1024x1024_0_0).toLoadRect (harg6.unread x5))⟩ : View.Piece (Elt F) S2x1024x1024 .bf16),
         ⟨slabR 1024 1024 0, k1_pay4 (View.readAt (Elt F) arg1.view (slabR 1024 1024 0).toLoadRect (harg1.unread x0)) (View.readAt (Elt F) arg6.view (Rect.unit ![0, 0] S1024x1024.size inb_S1024x1024_S1024x1024_0_0).toLoadRect (harg6.unread x5))⟩] := rfl
  rw [e, readAt_full2, readAt_whole, readAt_whole]
  exact canon_slabs (vals x0 x5) (fun i => k1_pay4 (View.ld x0 (slabR 1024 1024 i)) x5) fun _ _ _ => rfl

/-- The head a grid point computes, at the loads the kernel makes. -/
def loadedHead (i : Fin 2) (h : Fin 8) : FVec F S1x256x128 .bf16 :=
  k1_pay14 (k1_pay5 (View.readAt (Elt F) arg2.view (slabR 1 1024 i).toLoadRect (harg2.unread x1)) (View.readAt (Elt F) arg3.view (slabR 1 1024 i).toLoadRect (harg3.unread x2)))
    (View.readAt (Elt F) arg4.view (colsR 256 h).toLoadRect (harg4.unread x3))
    (arg10.view.readCov (kernelRun1_A.sl.HS0_2 c arg1 harg1 arg5 harg5 x0 x4) (slabRowsR 1024 i h).toLoadRect)
    (arg11.view.readCov (kernelRun1_A.sl.HS1_2 c arg1 harg1 arg6 harg6 x0 x5) (slabColsR 1024 i h).toLoadRect)

/-- It is the head of the pure function. -/
theorem loadedHead_eq (i : Fin 2) (h : Fin 8) :
    loadedHead c arg1 harg1 arg2 harg2 arg3 harg3 arg4 harg4 arg5 harg5 arg6 harg6 arg10 arg11 x0 x1 x2 x3 x4 x5 i h = head x0 x1 x2 x3 x4 x5 i h := by
  unfold loadedHead head bias
  rw [readCov_ld, readCov_ld, canon_keys, canon_vals, readAt_whole, readAt_whole, readAt_whole]

/-- The loaded heads are the heads. -/
theorem loadedHead_fun :
    loadedHead c arg1 harg1 arg2 harg2 arg3 harg3 arg4 harg4 arg5 harg5 arg6 harg6 arg10 arg11 x0 x1 x2 x3 x4 x5 = head x0 x1 x2 x3 x4 x5 := by
  funext i h
  exact loadedHead_eq c arg1 harg1 arg2 harg2 arg3 harg3 arg4 harg4 arg5 harg5 arg6 harg6 arg10 arg11 x0 x1 x2 x3 x4 x5 i h

/-- The run's sixteen stores are those of the heads of both sequences. -/
theorem pieces_all : kernelRun1_A.sl.HS2_16 c arg1 harg1 arg2 harg2 arg3 harg3 arg4 harg4 arg5 harg5 arg6 harg6 arg10 arg11 x0 x1 x2 x3 x4 x5
    = headPieces all16 (loadedHead c arg1 harg1 arg2 harg2 arg3 harg3 arg4 harg4 arg5 harg5 arg6 harg6 arg10 arg11 x0 x1 x2 x3 x4 x5) := rfl

/-- The run's first eight stores are those of the heads of the first sequence. -/
theorem pieces_first : kernelRun1_A.sl.HS2_8 c arg1 harg1 arg2 harg2 arg3 harg3 arg4 harg4 arg5 harg5 arg6 harg6 arg10 arg11 x0 x1 x2 x3 x4 x5
    = headPieces first8 (loadedHead c arg1 harg1 arg2 harg2 arg3 harg3 arg4 harg4 arg5 harg5 arg6 harg6 arg10 arg11 x0 x1 x2 x3 x4 x5) := rfl

/-- A slab of the stores is a slab of the heads, when each head of its sequence is stored. -/
theorem ld_headPieces (L : List (Fin 2 × Fin 8)) (i : Fin 2) (hL : ∀ h : Fin 8, (i, h) ∈ L) :
    View.ld (View.canon (headPieces L (head x0 x1 x2 x3 x4 x5))) (slabR 256 1024 i) = View.ld (heads x0 x1 x2 x3 x4 x5) (slabR 256 1024 i) := by
  funext z
  refine canon_headPieces L (head x0 x1 x2 x3 x4 x5) ((slabR 256 1024 i).idx z) ?_
  intro h
  have e : ((slabR 256 1024 i).idx z 0 : Fin 2) = i := by
    apply Fin.ext
    refine (Rect.idx_unit_val _ _ _ z 0).trans ?_
    have := (z 0).isLt; simp at this; simp; omega
  rw [e]
  exact hL h

/-- One grid point leaves the output block of its input blocks. -/
theorem out_block : out1_A_8 c i arg1 harg1 arg2 harg2 arg3 harg3 arg4 harg4 arg5 harg5 arg6 harg6 arg7 harg7 arg8 harg8 arg9 harg9 arg10 harg10
    arg11 harg11 arg12 harg12 x0 x1 x2 x3 x4 x5 x6 x7 = block x0 x1 x2 x3 x4 x5 x6 x7 := by
  unfold out1_A_8
  rw [View.read_writes_junk_eq_canon]
  have e : (kernelRun1_A c i arg1 harg1 arg2 harg2 arg3 harg3 arg4 harg4 arg5 harg5 arg6 harg6 arg7 harg7 arg8 harg8 arg9 harg9 arg10 harg10
      arg11 harg11 arg12 harg12 x0 x1 x2 x3 x4 x5 x6 x7).1
      = [(⟨slabR 256 768 1, k1_pay28 (arg12.view.readCov (kernelRun1_A.sl.HS2_16 c arg1 harg1 arg2 harg2 arg3 harg3 arg4 harg4 arg5 harg5 arg6 harg6 arg10 arg11 x0 x1 x2 x3 x4 x5) (slabR 256 1024 1).toLoadRect)
            (View.readAt (Elt F) arg7.view (Rect.unit ![0, 0] S1024x768.size inb_S1024x768_S1024x768_0_0).toLoadRect (harg7.unread x6))
            (View.readAt (Elt F) arg8.view (Rect.unit ![0, 0] S1x768.size inb_S1x768_S1x768_0_0).toLoadRect (harg8.unread x7))⟩ : View.Piece (Elt F) S2x256x768 .f32),
         ⟨slabR 256 768 0, k1_pay28 (arg12.view.readCov (kernelRun1_A.sl.HS2_8 c arg1 harg1 arg2 harg2 arg3 harg3 arg4 harg4 arg5 harg5 arg6 harg6 arg10 arg11 x0 x1 x2 x3 x4 x5) (slabR 256 1024 0).toLoadRect)
            (View.readAt (Elt F) arg7.view (Rect.unit ![0, 0] S1024x768.size inb_S1024x768_S1024x768_0_0).toLoadRect (harg7.unread x6))
            (View.readAt (Elt F) arg8.view (Rect.unit ![0, 0] S1x768.size inb_S1x768_S1x768_0_0).toLoadRect (harg8.unread x7))⟩] := rfl
  rw [e, pieces_all, pieces_first, loadedHead_fun, readCov_ld, readCov_ld, ld_headPieces _ _ _ _ _ _ _ _ (by decide),
    ld_headPieces _ _ _ _ _ _ _ _ (by decide), readAt_full2, readAt_full2]
  exact canon_slabs (block x0 x1 x2 x3 x4 x5 x6 x7)
    (fun i => k1_pay28 (View.ld (heads x0 x1 x2 x3 x4 x5) (slabR 256 1024 i)) x6 x7) fun _ _ _ => rfl

end Run

end Cert.Body

end
-- ==== Proof.Arrays.lean ====
/- The kernel's arrays after its two launches, as functions of the buffers each launch finds: the first launch's two results, the blocks the second
   launch reads at each grid point, and the second launch's result block by block. -/
module

public import proofs.«01_k».proof.Proof.Body
public import Idealize.ShloMosaic.Lib.Claim
public import Idealize.ShloMosaic.Lib.Pipeline.ValueKit

@[expose] public section

noncomputable section

namespace Cert.Arrays

open Cert.KernelIdeal Cert.KernelIdeal.Gen Cert.Body Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b)) (c : Dev nD)

/-- A block at block index zero that is its whole array: each place is its own place in the array. -/
theorem emb_whole {G : Pipeline.Grid} (w : Pipeline.Window sig G) (t : Fin G.N) (h : ∀ a, w.index t a = 0) (y : (w.xblock (G.coords t)).Idx)
    (a : Fin w.shape.rank) : ((w.rect t).emb y a : ℕ) = y a :=
  Pipeline.Window.rect_emb_val_of_index_zero w t a (h a) y

/-- Window 0 of the first launch reads its whole array. -/
theorem whole0_0 (t : Fin cfg0.N) : (iblk0 V c 0 t : Vec F S256x768 .f32) = V c main_arg3 := by
  funext y
  have e : (win0_0.blk t).view.emb y = y := funext fun a => Fin.ext (emb_whole win0_0 t (fun _ => rfl) y a)
  exact congrArg (V c main_arg3) e

/-- Window 1 of the first launch reads its whole array. -/
theorem whole0_1 (t : Fin cfg0.N) : (iblk0 V c 1 t : Vec F S1x768 .f32) = V c main_call0_v25 := by
  funext y
  have e : (win0_1.blk t).view.emb y = y := funext fun a => Fin.ext (emb_whole win0_1 t (fun _ => rfl) y a)
  exact congrArg (V c main_call0_v25) e

/-- Window 2 of the first launch reads its whole array. -/
theorem whole0_2 (t : Fin cfg0.N) : (iblk0 V c 2 t : Vec F S1x768 .f32) = V c main_call0_v26 := by
  funext y
  have e : (win0_2.blk t).view.emb y = y := funext fun a => Fin.ext (emb_whole win0_2 t (fun _ => rfl) y a)
  exact congrArg (V c main_call0_v26) e

/-- Window 3 of the first launch reads its whole array. -/
theorem whole0_3 (t : Fin cfg0.N) : (iblk0 V c 3 t : Vec F S768x1024 .bf16) = V c main_call0_v4 := by
  funext y
  have e : (win0_3.blk t).view.emb y = y := funext fun a => Fin.ext (emb_whole win0_3 t (fun _ => rfl) y a)
  exact congrArg (V c main_call0_v4) e

/-- Window 4 of the first launch reads its whole array. -/
theorem whole0_4 (t : Fin cfg0.N) : (iblk0 V c 4 t : Vec F S1x1024 .f32) = V c main_call0_v16 := by
  funext y
  have e : (win0_4.blk t).view.emb y = y := funext fun a => Fin.ext (emb_whole win0_4 t (fun _ => rfl) y a)
  exact congrArg (V c main_call0_v16) e

/-- Window 5 of the first launch reads its whole array. -/
theorem whole0_5 (t : Fin cfg0.N) : (iblk0 V c 5 t : Vec F S1x1024 .bf16) = V c main_call0_v27 := by
  funext y
  have e : (win0_5.blk t).view.emb y = y := funext fun a => Fin.ext (emb_whole win0_5 t (fun _ => rfl) y a)
  exact congrArg (V c main_call0_v27) e

/-- Window 6 of the first launch reads its whole array. -/
theorem whole0_6 (t : Fin cfg0.N) : (iblk0 V c 6 t : Vec F S1024x768 .bf16) = V c main_call0_v24 := by
  funext y
  have e : (win0_6.blk t).view.emb y = y := funext fun a => Fin.ext (emb_whole win0_6 t (fun _ => rfl) y a)
  exact congrArg (V c main_call0_v24) e

/-- Window 7 of the first launch reads its whole array. -/
theorem whole0_7 (t : Fin cfg0.N) : (iblk0 V c 7 t : Vec F S1x768 .f32) = V c main_call0_v28 := by
  funext y
  have e : (win0_7.blk t).view.emb y = y := funext fun a => Fin.ext (emb_whole win0_7 t (fun _ => rfl) y a)
  exact congrArg (V c main_call0_v28) e

/-- The first launch leaves the query heads in its first result. -/
theorem first_query : (dat0 V c).arrAt 8 cfg0.N
    = (k0_pay2 (V c main_arg3) (V c main_call0_v25) (V c main_call0_v26) (V c main_call0_v4) (V c main_call0_v16) : Vec F S256x1024 .bf16) := by
  refine (dat0 V c).arrAt_eq_of_covers 8 _ (by decide +kernel) fun t hf y => ?_
  blk_simp
  rw [after0_8]
  frame_out
  rw [whole0_0, whole0_1, whole0_2, whole0_3, whole0_4]
  have e : (win0_8.blk t).view.emb y = y := funext fun a => Fin.ext (emb_whole win0_8 t (fun _ => rfl) y a)
  exact (congrArg (k0_pay2 (V c main_arg3) (V c main_call0_v25) (V c main_call0_v26) (V c main_call0_v4) (V c main_call0_v16)) e).symm

/-- The first launch leaves the output bias in its second result. -/
theorem first_bias : (dat0 V c).arrAt 9 cfg0.N
    = (k0_pay1 (V c main_call0_v28) (V c main_call0_v27) (V c main_call0_v24) : Vec F S1x768 .f32) := by
  refine (dat0 V c).arrAt_eq_of_covers 9 _ (by decide +kernel) fun t hf y => ?_
  blk_simp
  rw [after0_9]
  frame_out
  rw [whole0_5, whole0_6, whole0_7]
  have e : (win0_9.blk t).view.emb y = y := funext fun a => Fin.ext (emb_whole win0_9 t (fun _ => rfl) y a)
  exact (congrArg (k0_pay1 (V c main_call0_v28) (V c main_call0_v27) (V c main_call0_v24)) e).symm

/-- The block index of the five windows of the second launch that read their whole arrays. -/
theorem index_whole : ∀ t : Fin grid1.N, (∀ a, win1_3.index t a = 0) ∧ (∀ a, win1_4.index t a = 0) ∧ (∀ a, win1_5.index t a = 0)
    ∧ (∀ a, win1_6.index t a = 0) ∧ (∀ a, win1_7.index t a = 0) := by decide +kernel

/-- Window 3 of the second launch reads its whole array. -/
theorem whole1_3 (t : Fin cfg1.N) : (iblk1 V c 3 t : Vec F S256x1024 .bf16) = V c main_call0_v29_0 := by
  funext y
  have e : (win1_3.blk t).view.emb y = y := funext fun a => Fin.ext (emb_whole win1_3 t (index_whole t).1 y a)
  exact congrArg (V c main_call0_v29_0) e

/-- Window 4 of the second launch reads its whole array. -/
theorem whole1_4 (t : Fin cfg1.N) : (iblk1 V c 4 t : Vec F S1024x1024 .bf16) = V c main_call0_v8 := by
  funext y
  have e : (win1_4.blk t).view.emb y = y := funext fun a => Fin.ext (emb_whole win1_4 t (index_whole t).2.1 y a)
  exact congrArg (V c main_call0_v8) e

/-- Window 5 of the second launch reads its whole array. -/
theorem whole1_5 (t : Fin cfg1.N) : (iblk1 V c 5 t : Vec F S1024x1024 .bf16) = V c main_call0_v13 := by
  funext y
  have e : (win1_5.blk t).view.emb y = y := funext fun a => Fin.ext (emb_whole win1_5 t (index_whole t).2.2.1 y a)
  exact congrArg (V c main_call0_v13) e

/-- Window 6 of the second launch reads its whole array. -/
theorem whole1_6 (t : Fin cfg1.N) : (iblk1 V c 6 t : Vec F S1024x768 .bf16) = V c main_call0_v24 := by
  funext y
  have e : (win1_6.blk t).view.emb y = y := funext fun a => Fin.ext (emb_whole win1_6 t (index_whole t).2.2.2.1 y a)
  exact congrArg (V c main_call0_v24) e

/-- Window 7 of the second launch reads its whole array. -/
theorem whole1_7 (t : Fin cfg1.N) : (iblk1 V c 7 t : Vec F S1x768 .f32) = V c main_call0_v29_1 := by
  funext y
  have e : (win1_7.blk t).view.emb y = y := funext fun a => Fin.ext (emb_whole win1_7 t (index_whole t).2.2.2.2 y a)
  exact congrArg (V c main_call0_v29_1) e

/-- The pair `t` of a stack of matrices. -/
def pair {A B : ℕ} {e : EltTy} (X : (⟨3, ![32, A, B]⟩ : Shape).Idx → Elt F e) (t : Fin 16) : (⟨3, ![2, A, B]⟩ : Shape).Idx → Elt F e :=
  fun y => X (ix3 ⟨2 * t.val + (y 0).val, by have := (y 0).isLt; simp at this; omega⟩ (y 1) (y 2))

/-- The block index of the other four windows of the second launch: the pair's number. -/
theorem index_pair : ∀ t : Fin grid1.N, win1_0.index t = ![t.val, 0, 0] ∧ win1_1.index t = ![t.val, 0, 0] ∧ win1_2.index t = ![t.val, 0, 0]
    ∧ win1_8.index t = ![t.val, 0, 0] := by decide +kernel

/-- Window 0 of the second launch reads a pair. -/
theorem pair1_0 (t : Fin cfg1.N) : (iblk1 V c 0 t : Vec F S2x1024x1024 .f32) = pair (V c main_arg0) t := by
  funext y; blk_ext [iblk1, pair, index_pair t]

/-- Window 1 of the second launch reads a pair. -/
theorem pair1_1 (t : Fin cfg1.N) : (iblk1 V c 1 t : Vec F S2x1x1024 .f32) = pair (V c main_call0_v31) t := by
  funext y; blk_ext [iblk1, pair, index_pair t]

/-- Window 2 of the second launch reads a pair. -/
theorem pair1_2 (t : Fin cfg1.N) : (iblk1 V c 2 t : Vec F S2x1x1024 .f32) = pair (V c main_arg2) t := by
  funext y; blk_ext [iblk1, pair, index_pair t]

/-- The result as a function of the second launch's arrays: sequence `b` is in pair `b / 2`. -/
def result (x : Vec F S32x1024x1024 .f32) (size mask : Vec F S32x1x1024 .f32) (q : Vec F S256x1024 .bf16) (wk wv : Vec F S1024x1024 .bf16)
    (wo : Vec F S1024x768 .bf16) (bo : Vec F S1x768 .f32) : Vec F S32x256x768 .f32 :=
  fun j => block (pair x ⟨(j 0).val / 2, by have := (j 0).isLt; simp at this; omega⟩) (pair size ⟨(j 0).val / 2, by have := (j 0).isLt; simp at this; omega⟩)
    (pair mask ⟨(j 0).val / 2, by have := (j 0).isLt; simp at this; omega⟩) q wk wv wo bo (ix3 ⟨(j 0).val % 2, Nat.mod_lt _ (by norm_num)⟩ (j 1) (j 2))

/-- The result at sequence `i` of pair `t`. -/
theorem result_pair (x : Vec F S32x1024x1024 .f32) (size mask : Vec F S32x1x1024 .f32) (q : Vec F S256x1024 .bf16) (wk wv : Vec F S1024x1024 .bf16)
    (wo : Vec F S1024x768 .bf16) (bo : Vec F S1x768 .f32) (t : Fin 16) (i : Fin 2) (b : Fin 32) (hb : b.val = 2 * t.val + i.val) (a : Fin 256) (n : Fin 768) :
    result x size mask q wk wv wo bo (ix3 b a n) = block (pair x t) (pair size t) (pair mask t) q wk wv wo bo (ix3 i a n) := by
  have e1 : (⟨b.val / 2, by omega⟩ : Fin 16) = t := Fin.ext (by show b.val / 2 = t.val; omega)
  have e2 : (⟨b.val % 2, Nat.mod_lt _ (by norm_num)⟩ : Fin 2) = i := Fin.ext (by show b.val % 2 = i.val; omega)
  show block (pair x ⟨b.val / 2, by omega⟩) (pair size ⟨b.val / 2, by omega⟩) (pair mask ⟨b.val / 2, by omega⟩) q wk wv wo bo
    (ix3 ⟨b.val % 2, Nat.mod_lt _ (by norm_num)⟩ a n) = _
  rw [e1, e2]

/-- The second launch leaves the result. -/
theorem second : (dat1 V c).arrAt 8 cfg1.N = (result (V c main_arg0) (V c main_call0_v31) (V c main_arg2) (V c main_call0_v29_0) (V c main_call0_v8)
    (V c main_call0_v13) (V c main_call0_v24) (V c main_call0_v29_1) : Vec F S32x256x768 .f32) := by
  refine (dat1 V c).arrAt_eq_of_covers 8 _ (by decide +kernel) fun t hf y => ?_
  blk_simp
  rw [after1_8]
  unfold outsAt1
  rw [out_block, whole1_3, whole1_4, whole1_5, whole1_6, whole1_7, pair1_0, pair1_1, pair1_2]
  have h0 : (y 0).val < 2 := (y 0).isLt
  have ht : t.val < 16 := t.isLt
  have e : (win1_8.blk t).view.emb y = ix3 (⟨2 * t.val + (y 0).val, by omega⟩ : Fin 32) (y 1 : Fin 256) (y 2 : Fin 768) := by
    blk_ext [index_pair t]
  have ey : y = ix3 (y 0 : Fin 2) (y 1 : Fin 256) (y 2 : Fin 768) := by blk_ext
  refine Eq.trans (congrArg _ ey) (Eq.symm ((congrArg _ e).trans ?_))
  exact result_pair _ _ _ _ _ _ _ _ t (y 0) _ rfl _ _

end Cert.Arrays

end
-- ==== Proof.Model.lean ====
/- The two programs over the real numbers, and why they agree. The kernel keeps every head in 128 columns of which 32 are zero, drops the bias of
   the keys (which multiplies all of a row's weights by one factor), moves the bias of the values past the softmax (whose weights add up to one),
   takes powers of two for exponentials, and takes the variance as the mean of the squares less the square of the mean. -/
module

public import Mathlib.Analysis.SpecialFunctions.Pow.Real
public import Mathlib.Algebra.BigOperators.Fin
public import Mathlib.Algebra.BigOperators.Field
public import Mathlib.Tactic.FieldSimp

@[expose] public section

noncomputable section

namespace Cert.Model

open Finset

/-- The constant that a layer norm adds to the variance: the f32 next to a hundred-thousandth. -/
def eps : ℝ := 10995116 / 2 ^ 40

/-- It is positive. -/
theorem eps_pos : 0 < eps := by unfold eps; norm_num

/-- The mean of a row. -/
def mean {n : ℕ} (f : Fin n → ℝ) : ℝ := (∑ i, f i) / n

/-- The variance of a row: the mean of the squared distances to its mean. -/
def var {n : ℕ} (f : Fin n → ℝ) : ℝ := (∑ i, (f i - mean f) * (f i - mean f)) / n

/-- A row normalised: centred, and over its standard deviation. -/
def norm {n : ℕ} (f : Fin n → ℝ) (i : Fin n) : ℝ := (f i - mean f) * (√(var f + eps))⁻¹

/-- A variance is not negative. -/
theorem var_nonneg {n : ℕ} (f : Fin n → ℝ) : 0 ≤ var f :=
  div_nonneg (sum_nonneg fun i _ => mul_self_nonneg _) (Nat.cast_nonneg n)

/-- The number under the root is positive. -/
theorem var_eps_pos {n : ℕ} (f : Fin n → ℝ) : 0 < var f + eps := add_pos_of_nonneg_of_pos (var_nonneg f) eps_pos

/-- The variance is the mean of the squares less the square of the mean. -/
theorem var_eq {n : ℕ} (hn : n ≠ 0) (f : Fin n → ℝ) : (∑ i, f i * f i) / n - mean f * mean f = var f := by
  have h0 : (n : ℝ) ≠ 0 := Nat.cast_ne_zero.mpr hn
  have h1 : ∑ i, f i = mean f * n := by unfold mean; field_simp
  have h2 : ∑ i, (f i - mean f) * (f i - mean f) = ∑ i, f i * f i - mean f * mean f * n := by
    have : ∀ i, (f i - mean f) * (f i - mean f) = f i * f i - 2 * mean f * f i + mean f * mean f := fun i => by ring
    simp only [this, sum_add_distrib, sum_sub_distrib, ← mul_sum, h1, sum_const, card_univ, Fintype.card_fin, nsmul_eq_mul]
    ring
  unfold var
  rw [h2]
  field_simp

/-- The inputs, as real numbers. -/
structure Inputs where
  /-- the sequences -/
  x : Fin 32 → Fin 1024 → Fin 1024 → ℝ
  /-- the cluster size of each position -/
  size : Fin 32 → Fin 1024 → ℝ
  /-- the additive mask of each position -/
  mask : Fin 32 → Fin 1024 → ℝ
  /-- the learned queries -/
  q : Fin 256 → Fin 768 → ℝ
  /-- the weight of the queries' layer norm -/
  lw : Fin 768 → ℝ
  /-- the bias of the queries' layer norm -/
  lb : Fin 768 → ℝ
  /-- the query projection -/
  wq : Fin 768 → Fin 768 → ℝ
  /-- the key projection -/
  wk : Fin 768 → Fin 1024 → ℝ
  /-- the value projection -/
  wv : Fin 768 → Fin 1024 → ℝ
  /-- the query bias -/
  bq : Fin 768 → ℝ
  /-- the key bias -/
  bk : Fin 768 → ℝ
  /-- the value bias -/
  bv : Fin 768 → ℝ
  /-- the output projection -/
  wo : Fin 768 → Fin 768 → ℝ
  /-- the output bias -/
  bo : Fin 768 → ℝ

variable (I : Inputs)

/-- A normalised query. -/
def qn (a : Fin 256) (c : Fin 768) : ℝ := norm (I.q a) c * I.lw c + I.lb c

/-- A projected query. -/
def qp (a : Fin 256) (d : Fin 768) : ℝ := ∑ c, qn I a c * I.wq d c + I.bq d

/-- A projected key, without its bias. -/
def kp (b : Fin 32) (l : Fin 1024) (d : Fin 768) : ℝ := ∑ c, norm (I.x b l) c * I.wk d c

/-- A projected value, without its bias. -/
def vp (b : Fin 32) (l : Fin 1024) (d : Fin 768) : ℝ := ∑ c, norm (I.x b l) c * I.wv d c

/-- A position's cluster size, one in place of a size below a half. -/
def sz (b : Fin 32) (l : Fin 1024) : ℝ := if I.size b l < 1 / 2 then 1 else I.size b l

/-- It is positive. -/
theorem sz_pos (b : Fin 32) (l : Fin 1024) : 0 < sz I b l := by
  unfold sz; split_ifs with h
  · norm_num
  · linarith

/-- Column `e` of head `h`. -/
def hd (h : Fin 8) (e : Fin 96) : Fin 768 := ⟨h.val * 96 + e.val, by omega⟩

/-- The head a column is in. -/
def headOf (d : Fin 768) : Fin 8 := ⟨d.val / 96, by omega⟩

/-! ## The reference -/

/-- A score. -/
def score (b : Fin 32) (h : Fin 8) (a : Fin 256) (l : Fin 1024) : ℝ :=
  ∑ e, (kp I b l (hd h e) + I.bk (hd h e)) * (qp I a (hd h e) * (1 / √96)) + (Real.log (sz I b l) + I.mask b l)

/-- An attention weight. -/
def attn (b : Fin 32) (h : Fin 8) (a : Fin 256) (l : Fin 1024) : ℝ := Real.exp (score I b h a l) / ∑ k, Real.exp (score I b h a k)

/-- One entry of the reference's result. -/
def refOut (b : Fin 32) (a : Fin 256) (n : Fin 768) : ℝ :=
  ∑ d, (∑ l, (vp I b l d + I.bv d) * attn I b (headOf d) a l) * I.wo n d + I.bo n

/-- Softmax does not change when one number is taken from every score. -/
theorem softmax_shift {n : ℕ} (f : Fin n → ℝ) (M : ℝ) (l : Fin n) :
    Real.exp (f l - M) / ∑ k, Real.exp (f k - M) = Real.exp (f l) / ∑ k, Real.exp (f k) := by
  simp only [Real.exp_sub, ← sum_div]
  have := Real.exp_pos M
  field_simp

/-! ## The kernel -/

/-- A row of 768 laid out as eight heads of 128 columns, zero in each head's last 32. -/
def pad (f : Fin 768 → ℝ) (j : Fin 1024) : ℝ :=
  if h : j.val / 128 < 8 ∧ j.val % 128 < 96 then f ⟨j.val / 128 * 96 + j.val % 128, by omega⟩ else 0

/-- Column `e` of head `h` in that layout. -/
def col (h : Fin 8) (e : Fin 128) : Fin 1024 := ⟨128 * h.val + e.val, by omega⟩

/-- The factor of the query heads. -/
def qscale : ℝ := (Real.log 2)⁻¹ * (√96)⁻¹

/-- A query head's entry. -/
def kq (a : Fin 256) (j : Fin 1024) : ℝ := (∑ c, qn I a c * pad (fun d => I.wq d c) j + pad I.bq j) * qscale

/-- A key head's entry. -/
def kk (b : Fin 32) (j : Fin 1024) (l : Fin 1024) : ℝ := ∑ c, pad (fun d => I.wk d c) j * norm (I.x b l) c

/-- A value head's entry. -/
def kv (b : Fin 32) (l : Fin 1024) (j : Fin 1024) : ℝ := ∑ c, norm (I.x b l) c * pad (fun d => I.wv d c) j

/-- A score bias, for powers of two. -/
def kb (b : Fin 32) (l : Fin 1024) : ℝ := Real.log (sz I b l) * (Real.log 2)⁻¹ + I.mask b l * (Real.log 2)⁻¹

/-- An unnormalised weight. -/
def kw (b : Fin 32) (h : Fin 8) (a : Fin 256) (l : Fin 1024) : ℝ :=
  Real.rpow 2 (∑ e, kq I a (col h e) * kk I b (col h e) l + kb I b l)

/-- A head's weighted values. -/
def ko (b : Fin 32) (a : Fin 256) (h : Fin 8) (e : Fin 128) : ℝ := (∑ l, kw I b h a l * kv I b l (col h e)) / ∑ l, kw I b h a l

/-- The kernel's output bias. -/
def kbo (n : Fin 768) : ℝ := I.bo n + ∑ j, pad I.bv j * pad (fun d => I.wo n d) j

/-- One entry of the kernel's result. -/
def kerOut (b : Fin 32) (a : Fin 256) (n : Fin 768) : ℝ :=
  ∑ j : Fin 1024, ko I b a ⟨j.val / 128, by omega⟩ ⟨j.val % 128, by omega⟩ * pad (fun d => I.wo n d) j + kbo I n

/-! ## The layout -/

/-- Sums and products go through the layout. -/
theorem pad_add (f g : Fin 768 → ℝ) (j : Fin 1024) : pad f j + pad g j = pad (fun d => f d + g d) j := by
  unfold pad; split_ifs <;> simp
/-- Products of two laid out rows. -/
theorem pad_mul (f g : Fin 768 → ℝ) (j : Fin 1024) : pad f j * pad g j = pad (fun d => f d * g d) j := by
  unfold pad; split_ifs <;> simp
/-- A factor before the layout. -/
theorem mul_pad (r : ℝ) (f : Fin 768 → ℝ) (j : Fin 1024) : r * pad f j = pad (fun d => r * f d) j := by
  unfold pad; split_ifs <;> simp
/-- A factor after the layout. -/
theorem pad_mul_const (r : ℝ) (f : Fin 768 → ℝ) (j : Fin 1024) : pad f j * r = pad (fun d => f d * r) j := by
  unfold pad; split_ifs <;> simp
/-- A sum of laid out rows. -/
theorem sum_pad {n : ℕ} (f : Fin n → Fin 768 → ℝ) (j : Fin 1024) : ∑ c, pad (f c) j = pad (fun d => ∑ c, f c d) j := by
  unfold pad; split_ifs <;> simp

/-- The sum of a head's 128 columns is the sum of its 96. -/
theorem sum_head (f : Fin 768 → ℝ) (h : Fin 8) : ∑ e, pad f (col h e) = ∑ e, f (hd h e) := by
  have e1 : ∀ e : Fin (96 + 32), pad f (col h e) = if he : e.val < 96 then f (hd h ⟨e.val, he⟩) else 0 := by
    intro e
    have h8 := h.isLt
    have he := e.isLt
    have q : (128 * h.val + e.val) / 128 = h.val := by omega
    have r : (128 * h.val + e.val) % 128 = e.val := by omega
    unfold pad col hd
    simp only [q, r]
    by_cases hc : e.val < 96
    · simp [hc]
    · simp [hc]
  have e2 : ∑ e : Fin (96 + 32), pad f (col h e) = ∑ e, f (hd h e) := by
    rw [Fin.sum_univ_add]
    simp [e1]
  exact e2

/-- The columns of all heads, head by head. -/
theorem sum_heads {A : ℕ} (B : ℕ) (hB : 0 < B) (f : Fin (A * B) → ℝ) :
    ∑ j, f j = ∑ h : Fin A, ∑ e : Fin B, f (finProdFinEquiv (h, e)) := by
  rw [← Fintype.sum_prod_type' (fun h e => f (finProdFinEquiv (h, e)))]
  exact (Equiv.sum_comp finProdFinEquiv f).symm

/-- The sum of a laid out row is the row's. -/
theorem sum_all (f : Fin 768 → ℝ) : ∑ j, pad f j = ∑ d, f d := by
  have l : ∑ j : Fin (8 * 128), pad f j = ∑ h : Fin 8, ∑ e : Fin 128, pad f (col h e) := by
    rw [sum_heads 128 (by norm_num)]
    refine sum_congr rfl fun h _ => sum_congr rfl fun e _ => congrArg (pad f) (Fin.ext ?_)
    show e.val + 128 * h.val = 128 * h.val + e.val
    omega
  have r : ∑ d : Fin (8 * 96), f d = ∑ h : Fin 8, ∑ e : Fin 96, f (hd h e) := by
    rw [sum_heads 96 (by norm_num)]
    refine sum_congr rfl fun h _ => sum_congr rfl fun e _ => congrArg f (Fin.ext ?_)
    show e.val + 96 * h.val = h.val * 96 + e.val
    omega
  refine l.trans (Eq.trans ?_ r.symm)
  exact sum_congr rfl fun h _ => sum_head f h

/-! ## Why they agree -/

/-- The kernel's query heads are the projected queries laid out. -/
theorem kq_eq (a : Fin 256) (j : Fin 1024) : kq I a j = pad (fun d => qp I a d * qscale) j := by
  unfold kq qp
  simp only [mul_pad, sum_pad, pad_add, pad_mul_const]

/-- The kernel's key heads are the projected keys laid out. -/
theorem kk_eq (b : Fin 32) (j l : Fin 1024) : kk I b j l = pad (fun d => kp I b l d) j := by
  unfold kk kp
  simp only [mul_comm (pad _ _) (norm _ _), mul_pad, sum_pad]

/-- The kernel's value heads are the projected values laid out. -/
theorem kv_eq (b : Fin 32) (l j : Fin 1024) : kv I b l j = pad (fun d => vp I b l d) j := by
  unfold kv vp
  simp only [mul_pad, sum_pad]

/-- The score without the part of the key bias, which all positions share. -/
def part (b : Fin 32) (h : Fin 8) (a : Fin 256) (l : Fin 1024) : ℝ :=
  ∑ e, kp I b l (hd h e) * (qp I a (hd h e) * (1 / √96)) + (Real.log (sz I b l) + I.mask b l)

/-- The kernel's powers of two are the exponentials of those scores. -/
theorem kw_eq (b : Fin 32) (h : Fin 8) (a : Fin 256) (l : Fin 1024) : kw I b h a l = Real.exp (part I b h a l) := by
  have hl : Real.log 2 ≠ 0 := (Real.log_pos (by norm_num)).ne'
  unfold kw
  simp only [kq_eq, kk_eq, pad_mul, sum_head]
  show (2 : ℝ) ^ (_ : ℝ) = _
  rw [Real.rpow_def_of_pos (by norm_num)]
  congr 1
  unfold part kb qscale
  rw [mul_add, mul_sum]
  congr 1
  · refine sum_congr rfl fun e _ => ?_
    field_simp
  · field_simp

/-- The key bias scales a row's exponentials by one factor. -/
theorem exp_score (b : Fin 32) (h : Fin 8) (a : Fin 256) (l : Fin 1024) :
    Real.exp (score I b h a l) = Real.exp (part I b h a l) * Real.exp (∑ e, I.bk (hd h e) * (qp I a (hd h e) * (1 / √96))) := by
  rw [← Real.exp_add]
  congr 1
  unfold score part
  simp only [add_mul, sum_add_distrib]
  ring

/-- So the weights are those of the scores without it. -/
theorem attn_eq (b : Fin 32) (h : Fin 8) (a : Fin 256) (l : Fin 1024) :
    attn I b h a l = kw I b h a l / ∑ k, kw I b h a k := by
  unfold attn
  simp only [exp_score, ← sum_mul, ← kw_eq]
  exact mul_div_mul_right _ _ (Real.exp_pos _).ne'

/-- The unnormalised weights add up to a positive number. -/
theorem kw_sum_pos (b : Fin 32) (h : Fin 8) (a : Fin 256) : 0 < ∑ l, kw I b h a l :=
  sum_pos (fun l _ => by rw [kw_eq]; exact Real.exp_pos _) univ_nonempty

/-- The weights add up to one, so a bias of the values passes through. -/
theorem weighted (b : Fin 32) (h : Fin 8) (a : Fin 256) (d : Fin 768) :
    ∑ l, (vp I b l d + I.bv d) * attn I b h a l = (∑ l, kw I b h a l * vp I b l d) / (∑ l, kw I b h a l) + I.bv d := by
  have hp := (kw_sum_pos I b h a).ne'
  simp only [attn_eq, mul_div_assoc', ← sum_div, add_mul, sum_add_distrib, ← mul_sum]
  rw [add_div, mul_div_assoc, div_self hp, mul_one]
  congr 2
  exact sum_congr rfl fun l _ => mul_comm _ _

/-- A head's weighted values against the output projection. -/
theorem ko_pad (b : Fin 32) (a : Fin 256) (n : Fin 768) (j : Fin 1024) :
    ko I b a ⟨j.val / 128, by omega⟩ ⟨j.val % 128, by omega⟩ * pad (fun d => I.wo n d) j
      = pad (fun d => (∑ l, kw I b (headOf d) a l * vp I b l d) / (∑ l, kw I b (headOf d) a l) * I.wo n d) j := by
  have hj := j.isLt
  have ej : col ⟨j.val / 128, by omega⟩ ⟨j.val % 128, by omega⟩ = j := Fin.ext (by show 128 * (j.val / 128) + j.val % 128 = j.val; omega)
  unfold ko
  simp only [kv_eq, ej]
  by_cases hc : j.val / 128 < 8 ∧ j.val % 128 < 96
  · have eh : headOf ⟨j.val / 128 * 96 + j.val % 128, by omega⟩ = ⟨j.val / 128, by omega⟩ :=
      Fin.ext (by show (j.val / 128 * 96 + j.val % 128) / 96 = j.val / 128; omega)
    simp only [pad, dif_pos hc, eh]
  · simp only [pad, dif_neg hc, mul_zero]

/-- The two results are equal. -/
theorem agree (b : Fin 32) (a : Fin 256) (n : Fin 768) : kerOut I b a n = refOut I b a n := by
  unfold kerOut refOut kbo
  simp only [ko_pad, pad_mul, sum_all, weighted]
  simp only [add_mul, sum_add_distrib]
  ring

end Cert.Model

end
-- ==== Proof.Consts.lean ====
/- Extended reals that are real: the programs' constants, and the operations on real arguments. -/
module

public import proofs.«01_k».proof.Proof.Body
public import proofs.«01_k».proof.Proof.Model
public import Idealize.ShloMosaic.Lib.Claim
public import Idealize.ShloMosaic.Lib.Pointwise
public import Idealize.ShloMosaic.Lib.IdealHost

@[expose] public section

noncomputable section

namespace Cert.Consts

open Idealize.ShloMosaic

/-- The number of columns of a sequence. -/
theorem c1024 : Idealize.ShloMosaic.Ideal.ofBits .f32 0x44800000#32 = ((1024 : ℝ) : EReal) := by
  simp [Ideal.ofBits, Ideal.ieee, -EReal.coe_mul]; norm_num

/-- The number of columns of a query. -/
theorem c768 : Idealize.ShloMosaic.Ideal.ofBits .f32 0x44400000#32 = ((768 : ℝ) : EReal) := by
  simp [Ideal.ofBits, Ideal.ieee, -EReal.coe_mul]; norm_num

/-- The number of columns of a head. -/
theorem c96 : Idealize.ShloMosaic.Ideal.ofBits .f32 0x42C00000#32 = ((96 : ℝ) : EReal) := by
  simp [Ideal.ofBits, Ideal.ieee, -EReal.coe_mul]; norm_num

/-- A half. -/
theorem chalf : Idealize.ShloMosaic.Ideal.ofBits .f32 0x3F000000#32 = ((1 / 2 : ℝ) : EReal) := by
  simp [Ideal.ofBits, Ideal.ieee, -EReal.coe_mul]; norm_num

/-- The layer norms' constant. -/
theorem ceps : Idealize.ShloMosaic.Ideal.ofBits .f32 0x3727C5AC#32 = ((Model.eps : ℝ) : EReal) := by
  unfold Model.eps
  simp [Ideal.ofBits, Ideal.ieee, -EReal.coe_mul]; norm_num

/-- Minus infinity. -/
theorem cbot : Idealize.ShloMosaic.Ideal.ofBits .f32 0xFF800000#32 = ⊥ := by
  simp [Ideal.ofBits, Ideal.ieee, -EReal.coe_mul]

/-- The named logarithm. -/
theorem log2e : (Named.named Cert.KernelIdeal.κ "log2e" 0x3FB8AA3B#32 : Idealize.ShloMosaic.Ideal .f32) = (((Real.log 2)⁻¹ : ℝ) : EReal) :=
  IdealRules.named_const.ideal_named_scalar _ _ _ _ rfl

/-- The named query factor. -/
theorem qscale : (Named.named Cert.KernelIdeal.κ "qscale" 0x3E16C740#32 : Idealize.ShloMosaic.Ideal .f32) = ((Model.qscale : ℝ) : EReal) :=
  IdealRules.named_const.ideal_named_scalar _ _ _ _ rfl

/-- A finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals. -/
theorem idiv (x y : ℝ) (hy : y ≠ 0) : Idealize.ShloMosaic.Ideal.div (x : EReal) (y : EReal) = ((x / y : ℝ) : EReal) := by
  rw [Ideal.div_coe hy, ← EReal.coe_mul]
  congr 1
  ring

/-- The inverse root of a positive real. -/
theorem irsqrt (x : ℝ) (hx : 0 < x) : Idealize.ShloMosaic.Ideal.rsqrt (x : EReal) = (((√x)⁻¹ : ℝ) : EReal) := by
  rw [Ideal.rsqrt_coe, if_neg (not_lt.mpr hx.le), if_neg hx.ne']

/-- The root of a positive real. -/
theorem isqrt (x : ℝ) (hx : 0 < x) : Idealize.ShloMosaic.Ideal.sqrt (x : EReal) = ((√x : ℝ) : EReal) := by
  rw [Ideal.sqrt_coe, if_neg (not_lt.mpr hx.le)]

/-- The logarithm of a positive real. -/
theorem ilog (x : ℝ) (hx : 0 < x) : Idealize.ShloMosaic.Ideal.log (x : EReal) = ((Real.log x : ℝ) : EReal) := by
  rw [Ideal.log_coe, if_neg (not_le.mpr hx)]

/-- A power of two. -/
theorem iexp2 (x : ℝ) : (FloatOps.exp2 (F := Idealize.ShloMosaic.Ideal) (φ := .f32) (x : EReal) : EReal) = ((Real.rpow 2 x : ℝ) : EReal) :=
  Ideal.exp2_coe x

/-- A cluster size below one half is taken as one. -/
theorem clamp (I : Model.Inputs) (b : Fin 32) (l : Fin 1024) :
    (if ((I.size b l : ℝ) : EReal) < ((1 / 2 : ℝ) : EReal) then (1 : EReal) else ((I.size b l : ℝ) : EReal)) = ((Model.sz I b l : ℝ) : EReal) := by
  unfold Model.sz
  simp only [EReal.coe_lt_coe_iff]
  split_ifs <;> simp

/-- The greatest of finitely many reals, at least one, is real. -/
theorem fold_max {n : ℕ} [NeZero n] (f : Fin n → ℝ) : ∃ M : ℝ, Finset.univ.fold max (⊥ : EReal) (fun k => (f k : EReal)) = (M : EReal) := by
  classical
  have gen : ∀ s : Finset (Fin n), s.Nonempty → ∃ M : ℝ, s.fold max (⊥ : EReal) (fun k => (f k : EReal)) = (M : EReal) := by
    intro s
    induction s using Finset.induction_on with
    | empty => intro h; exact absurd h Finset.not_nonempty_empty
    | insert a s ha ih =>
      intro _
      rw [Finset.fold_insert ha]
      rcases s.eq_empty_or_nonempty with rfl | hs
      · exact ⟨f a, by simp⟩
      · obtain ⟨M, hM⟩ := ih hs
        exact ⟨max (f a) M, by rw [hM]; exact (EReal.coe_strictMono.monotone.map_max).symm⟩
  exact gen _ ⟨0, Finset.mem_univ _⟩

end Cert.Consts

end
-- ==== Proof.KernelValue.lean ====
/- The kernel's two launches at real arguments: each array they compute holds the reals of the model. -/
module

public import proofs.«01_k».proof.Proof.Arrays
public import proofs.«01_k».proof.Proof.Consts

@[expose] public section

noncomputable section

namespace Cert.KernelValue

open Cert.KernelIdeal Cert.KernelIdeal.Gen Cert.Body Cert.Arrays Cert.Model Cert.Consts Idealize.ShloMosaic Idealize.ShloMosaic.TcCoe

local notation "FI" => Idealize.ShloMosaic.Ideal

variable (I : Inputs)

/-- A sequence's layer norm. -/
theorem normed (x : Vec FI S1x1024x1024 .f32) (f : Fin 1024 → Fin 1024 → ℝ) (h : ∀ l c, x (ix3 0 l c) = ((f l c : ℝ) : EReal)) (l c : Fin 1024) :
    k1_pay2 x (ix2 l c) = ((Model.norm (f l) c : ℝ) : EReal) := by
  have hn : (1024 : ℝ) ≠ 0 := by norm_num
  have hv := var_eq (n := 1024) (by norm_num) (f l)
  have hp := var_eps_pos (f l)
  pointwise [k1_pay2]
  simp only [h, c1024, ceps, ← EReal.coe_mul, ← coe_sum, idiv _ _ hn, ← EReal.coe_sub, ← EReal.coe_add]
  unfold mean at hv
  push_cast at hv
  rw [hv, irsqrt _ hp, ← EReal.coe_mul]
  unfold Model.norm mean
  push_cast
  rfl

/-- The score bias. -/
theorem bias_val (s k : Vec FI S1x1x1024 .f32) (b : Fin 32) (hs : ∀ l, s (ix3 0 0 l) = ((I.size b l : ℝ) : EReal))
    (hk : ∀ l, k (ix3 0 0 l) = ((I.mask b l : ℝ) : EReal)) (l : Fin 1024) : k1_pay5 s k (ix2 0 l) = ((kb I b l : ℝ) : EReal) := by
  pointwise [k1_pay5]
  rw [hs, hk, chalf, clamp, ilog _ (sz_pos I b l), log2e, ← EReal.coe_mul, ← EReal.coe_mul, ← EReal.coe_add]
  rfl

/-- The keys of one sequence. -/
theorem keys_val (x : Vec FI S1x1024x1024 .f32) (b : Fin 32) (hx : ∀ l c, x (ix3 0 l c) = ((I.x b l c : ℝ) : EReal)) (w : Vec FI S1024x1024 .bf16)
    (hw : ∀ j c, w (ix2 j c) = ((pad (fun d => I.wk d c) j : ℝ) : EReal)) (j l : Fin 1024) : k1_pay3 x w (ix3 0 j l) = ((kk I b j l : ℝ) : EReal) := by
  pointwise [k1_pay3]
  simp only [hw, normed x (I.x b) hx, ← EReal.coe_mul, ← coe_sum]
  rfl

/-- The values of one sequence. -/
theorem vals_val (x : Vec FI S1x1024x1024 .f32) (b : Fin 32) (hx : ∀ l c, x (ix3 0 l c) = ((I.x b l c : ℝ) : EReal)) (w : Vec FI S1024x1024 .bf16)
    (hw : ∀ c j, w (ix2 c j) = ((pad (fun d => I.wv d c) j : ℝ) : EReal)) (l j : Fin 1024) : k1_pay4 x w (ix3 0 l j) = ((kv I b l j : ℝ) : EReal) := by
  pointwise [k1_pay4]
  simp only [hw, normed x (I.x b) hx, ← EReal.coe_mul, ← coe_sum]
  rfl

/-- One head of one sequence. -/
theorem head_val (b : Fin 32) (h : Fin 8) (bi : FVec FI S1x1024 .f32) (q : Vec FI S256x128 .bf16) (k : Vec FI S1x128x1024 .bf16) (v : Vec FI S1x1024x128 .bf16)
    (hb : ∀ l, bi (ix2 0 l) = ((kb I b l : ℝ) : EReal)) (hq : ∀ a e, q (ix2 a e) = ((kq I a (col h e) : ℝ) : EReal))
    (hk : ∀ e l, k (ix3 0 e l) = ((kk I b (col h e) l : ℝ) : EReal)) (hv : ∀ l e, v (ix3 0 l e) = ((kv I b l (col h e) : ℝ) : EReal))
    (a : Fin 256) (e : Fin 128) : k1_pay14 bi q k v (ix3 0 a e) = ((ko I b a h e : ℝ) : EReal) := by
  pointwise [k1_pay14]
  simp only [hb, hq, hk, hv, ← EReal.coe_mul, ← coe_sum, ← EReal.coe_add, iexp2]
  exact idiv _ _ (kw_sum_pos I b h a).ne'

/-- One sequence's result. -/
theorem out_val (o : Vec FI S1x256x1024 .bf16) (w : Vec FI S1024x768 .bf16) (bo : Vec FI S1x768 .f32) (f : Fin 256 → Fin 1024 → ℝ)
    (ho : ∀ a j, o (ix3 0 a j) = ((f a j : ℝ) : EReal)) (hw : ∀ j n, w (ix2 j n) = ((pad (fun d => I.wo n d) j : ℝ) : EReal))
    (hb : ∀ n, bo (ix2 0 n) = ((kbo I n : ℝ) : EReal)) (a : Fin 256) (n : Fin 768) :
    k1_pay28 o w bo (ix3 0 a n) = ((∑ j, f a j * pad (fun d => I.wo n d) j + kbo I n : ℝ) : EReal) := by
  pointwise [k1_pay28]
  simp only [ho, hw, hb, ← EReal.coe_mul, ← coe_sum, ← EReal.coe_add]

/-- The first launch's query heads. -/
theorem query_val (x : Vec FI S256x768 .f32) (w b : Vec FI S1x768 .f32) (wq : Vec FI S768x1024 .bf16) (bq : Vec FI S1x1024 .f32)
    (hx : ∀ a c, x (ix2 a c) = ((I.q a c : ℝ) : EReal)) (hw : ∀ c, w (ix2 0 c) = ((I.lw c : ℝ) : EReal)) (hb : ∀ c, b (ix2 0 c) = ((I.lb c : ℝ) : EReal))
    (hwq : ∀ c j, wq (ix2 c j) = ((pad (fun d => I.wq d c) j : ℝ) : EReal)) (hbq : ∀ j, bq (ix2 0 j) = ((pad I.bq j : ℝ) : EReal))
    (a : Fin 256) (j : Fin 1024) : k0_pay2 x w b wq bq (ix2 a j) = ((kq I a j : ℝ) : EReal) := by
  have hn : (768 : ℝ) ≠ 0 := by norm_num
  have hp := var_eps_pos (I.q a)
  have hv : (∑ i, (I.q a i - (∑ k, I.q a k) / 768) * (I.q a i - (∑ k, I.q a k) / 768)) / 768 = var (I.q a) := by
    unfold var mean; push_cast; rfl
  pointwise [k0_pay2]
  simp only [hx, hw, hb, hwq, hbq, c768, ceps, Consts.qscale, ← EReal.coe_mul, ← coe_sum, idiv _ _ hn, ← EReal.coe_sub, ← EReal.coe_add, hv, irsqrt _ hp]
  unfold kq qn Model.norm mean
  push_cast
  rfl

/-- The first launch's output bias. -/
theorem obias_val (b : Vec FI S1x768 .f32) (v : Vec FI S1x1024 .bf16) (w : Vec FI S1024x768 .bf16) (hb : ∀ n, b (ix2 0 n) = ((I.bo n : ℝ) : EReal))
    (hv : ∀ j, v (ix2 0 j) = ((pad I.bv j : ℝ) : EReal)) (hw : ∀ j n, w (ix2 j n) = ((pad (fun d => I.wo n d) j : ℝ) : EReal)) (n : Fin 768) :
    k0_pay1 b v w (ix2 0 n) = ((kbo I n : ℝ) : EReal) := by
  pointwise [k0_pay1]
  simp only [hb, hv, hw, ← EReal.coe_mul, ← coe_sum, ← EReal.coe_add]
  rfl

/-- A load of one slab, at an index. -/
theorem ld_slab {A B : ℕ} {e : EltTy} (X : (⟨3, ![2, A, B]⟩ : Shape).Idx → Elt FI e) (i : Fin 2) (a : Fin A) (b : Fin B) :
    View.ld X (slabR A B i) (ix3 0 a b) = X (ix3 i a b) := by
  refine congrArg X (funext fun d => Fin.ext ((Rect.idx_unit_val _ _ _ _ d).trans ?_))
  fin_cases d <;> simp

/-- A load of one head's columns, at an index. -/
theorem ld_cols {A : ℕ} {e : EltTy} (X : (⟨2, ![A, 1024]⟩ : Shape).Idx → Elt FI e) (h : Fin 8) (a : Fin A) (j : Fin 128) :
    View.ld X (colsR A h) (ix2 a j) = X (ix2 a (col h j)) := by
  refine congrArg X (funext fun d => Fin.ext ((Rect.idx_unit_val _ _ _ _ d).trans ?_))
  fin_cases d <;> simp [col]

/-- A load of one head's columns of a slab, at an index. -/
theorem ld_slabCols {A : ℕ} {e : EltTy} (X : (⟨3, ![2, A, 1024]⟩ : Shape).Idx → Elt FI e) (i : Fin 2) (h : Fin 8) (a : Fin A) (j : Fin 128) :
    View.ld X (slabColsR A i h) (ix3 0 a j) = X (ix3 i a (col h j)) := by
  refine congrArg X (funext fun d => Fin.ext ((Rect.idx_unit_val _ _ _ _ d).trans ?_))
  fin_cases d <;> simp [col]

/-- A load of one head's rows of a slab, at an index. -/
theorem ld_slabRows {B : ℕ} {e : EltTy} (X : (⟨3, ![2, 1024, B]⟩ : Shape).Idx → Elt FI e) (i : Fin 2) (h : Fin 8) (j : Fin 128) (b : Fin B) :
    View.ld X (slabRowsR B i h) (ix3 0 j b) = X (ix3 i (col h j) b) := by
  refine congrArg X (funext fun d => Fin.ext ((Rect.idx_unit_val _ _ _ _ d).trans ?_))
  fin_cases d <;> simp [col]

/-- Slab `i` of pair `t` is the matrix of sequence `2 t + i`. -/
theorem ld_pair {A B : ℕ} {e : EltTy} (X : (⟨3, ![32, A, B]⟩ : Shape).Idx → Elt FI e) (t : Fin 16) (i : Fin 2) (b : Fin 32) (hb : b.val = 2 * t.val + i.val)
    (p : Fin A) (r : Fin B) : View.ld (pair X t) (slabR A B i) (ix3 0 p r) = X (ix3 b p r) := by
  rw [ld_slab]
  have hbi : (⟨2 * t.val + i.val, by omega⟩ : Fin 32) = b := Fin.ext hb.symm
  show X (ix3 _ p r) = _
  rw [← hbi]
  rfl

/-- The second launch's array, from arrays that hold the model's reals. -/
theorem result_val (x : Vec FI S32x1024x1024 .f32) (s k : Vec FI S32x1x1024 .f32) (q : Vec FI S256x1024 .bf16) (wk wv : Vec FI S1024x1024 .bf16)
    (wo : Vec FI S1024x768 .bf16) (bo : Vec FI S1x768 .f32)
    (hx : ∀ b l c, x (ix3 b l c) = ((I.x b l c : ℝ) : EReal)) (hs : ∀ b l, s (ix3 b 0 l) = ((I.size b l : ℝ) : EReal))
    (hk : ∀ b l, k (ix3 b 0 l) = ((I.mask b l : ℝ) : EReal)) (hq : ∀ a j, q (ix2 a j) = ((kq I a j : ℝ) : EReal))
    (hwk : ∀ j c, wk (ix2 j c) = ((pad (fun d => I.wk d c) j : ℝ) : EReal)) (hwv : ∀ c j, wv (ix2 c j) = ((pad (fun d => I.wv d c) j : ℝ) : EReal))
    (hwo : ∀ j n, wo (ix2 j n) = ((pad (fun d => I.wo n d) j : ℝ) : EReal)) (hbo : ∀ n, bo (ix2 0 n) = ((kbo I n : ℝ) : EReal))
    (b : Fin 32) (a : Fin 256) (n : Fin 768) : result x s k q wk wv wo bo (ix3 b a n) = ((kerOut I b a n : ℝ) : EReal) := by
  obtain ⟨t, i, hb⟩ : ∃ (t : Fin 16) (i : Fin 2), b.val = 2 * t.val + i.val :=
    ⟨⟨b.val / 2, by omega⟩, ⟨b.val % 2, by omega⟩, by simp only; omega⟩
  rw [result_pair x s k q wk wv wo bo t i b hb a n]
  have hx' : ∀ l c, View.ld (pair x t) (slabR 1024 1024 i) (ix3 0 l c) = ((I.x b l c : ℝ) : EReal) := fun l c => (ld_pair x t i b hb l c).trans (hx b l c)
  have hs' : ∀ l, View.ld (pair s t) (slabR 1 1024 i) (ix3 0 0 l) = ((I.size b l : ℝ) : EReal) := fun l => (ld_pair s t i b hb 0 l).trans (hs b l)
  have hk' : ∀ l, View.ld (pair k t) (slabR 1 1024 i) (ix3 0 0 l) = ((I.mask b l : ℝ) : EReal) := fun l => (ld_pair k t i b hb 0 l).trans (hk b l)
  have hh : ∀ h a e, head (pair x t) (pair s t) (pair k t) q wk wv i h (ix3 0 a e) = ((ko I b a h e : ℝ) : EReal) := fun h =>
    head_val I b h _ _ _ _ (bias_val I _ _ b hs' hk') (fun a e => (ld_cols q h a e).trans (hq a _))
      (fun e l => (ld_slabRows (keys (pair x t) wk) i h e l).trans (keys_val I _ b hx' wk hwk _ l))
      (fun l e => (ld_slabCols (vals (pair x t) wv) i h l e).trans (vals_val I _ b hx' wv hwv l _))
  exact out_val I _ wo bo (fun a j => ko I b a ⟨j.val / 128, by omega⟩ ⟨j.val % 128, Nat.mod_lt _ (by norm_num)⟩)
    (fun a j => (ld_slab (heads (pair x t) (pair s t) (pair k t) q wk wv) i a j).trans (hh _ a _)) hwo hbo a n

end Cert.KernelValue

end
-- ==== Proof.Held.lean ====
/- What it is for sixteen argument arrays to hold the reals of the model. -/
module

public import proofs.«01_k».proof.Proof.Consts
public import Idealize.ShloMosaic.Lib.Pointwise

@[expose] public section

noncomputable section

namespace Cert.Held

open Cert.Model Idealize.ShloMosaic

local notation "FI" => Idealize.ShloMosaic.Ideal

/-- The argument arrays hold the model's reals; the keys' and values' layer norm has weight one and bias zero. -/
structure Holds (I : Inputs) (x : Vec FI ⟨3, ![32, 1024, 1024]⟩ .f32) (size : Vec FI ⟨3, ![32, 1024, 1]⟩ .f32) (mask : Vec FI ⟨3, ![32, 1, 1024]⟩ .f32)
    (q : Vec FI ⟨2, ![256, 768]⟩ .f32) (lqw lqb : Vec FI ⟨1, ![768]⟩ .f32) (lkw lkb : Vec FI ⟨1, ![1024]⟩ .f32) (wq : Vec FI ⟨2, ![768, 768]⟩ .f32)
    (wk wv : Vec FI ⟨2, ![768, 1024]⟩ .f32) (bq bk bv : Vec FI ⟨1, ![768]⟩ .f32) (wo : Vec FI ⟨2, ![768, 768]⟩ .f32) (bo : Vec FI ⟨1, ![768]⟩ .f32) : Prop where
  /-- the sequences -/
  x : ∀ b l c, x (ix3 b l c) = ((I.x b l c : ℝ) : EReal)
  /-- the cluster sizes -/
  size : ∀ b l, size (ix3 b l 0) = ((I.size b l : ℝ) : EReal)
  /-- the mask -/
  mask : ∀ b l, mask (ix3 b 0 l) = ((I.mask b l : ℝ) : EReal)
  /-- the queries -/
  q : ∀ a c, q (ix2 a c) = ((I.q a c : ℝ) : EReal)
  /-- the queries' norm weight -/
  lqw : ∀ c, lqw (ix1 c) = ((I.lw c : ℝ) : EReal)
  /-- the queries' norm bias -/
  lqb : ∀ c, lqb (ix1 c) = ((I.lb c : ℝ) : EReal)
  /-- the keys' norm weight is one -/
  lkw : ∀ c, lkw (ix1 c) = ((1 : ℝ) : EReal)
  /-- the keys' norm bias is zero -/
  lkb : ∀ c, lkb (ix1 c) = ((0 : ℝ) : EReal)
  /-- the query projection -/
  wq : ∀ d c, wq (ix2 d c) = ((I.wq d c : ℝ) : EReal)
  /-- the key projection -/
  wk : ∀ d c, wk (ix2 d c) = ((I.wk d c : ℝ) : EReal)
  /-- the value projection -/
  wv : ∀ d c, wv (ix2 d c) = ((I.wv d c : ℝ) : EReal)
  /-- the query bias -/
  bq : ∀ d, bq (ix1 d) = ((I.bq d : ℝ) : EReal)
  /-- the key bias -/
  bk : ∀ d, bk (ix1 d) = ((I.bk d : ℝ) : EReal)
  /-- the value bias -/
  bv : ∀ d, bv (ix1 d) = ((I.bv d : ℝ) : EReal)
  /-- the output projection -/
  wo : ∀ n d, wo (ix2 n d) = ((I.wo n d : ℝ) : EReal)
  /-- the output bias -/
  bo : ∀ n, bo (ix1 n) = ((I.bo n : ℝ) : EReal)

end Cert.Held

end
-- ==== Proof.KernelHost.lean ====
/- What the kernel leaves in its result array, at real arguments: the padded arrays the launches are given, and then the launches. -/
module

public import proofs.«01_k».proof.Proof.KernelValue
public import proofs.«01_k».proof.Proof.Held
public import Idealize.ShloMosaic.Lib.StableHlo.ReadAt

@[expose] public section

noncomputable section

namespace Cert.KernelHost

open Cert.KernelIdeal Cert.KernelIdeal.Gen Cert.Body Cert.Arrays Cert.Model Cert.Held Cert.KernelValue Idealize.ShloMosaic Idealize.ShloMosaic.TcCoe
  Idealize.SL.Sem

local notation "FI" => Idealize.ShloMosaic.Ideal

variable (m : (ℓ : Loc nD τ sig) → Buf (Elt FI) ℓ) (ρ : Dev nD → PrngReg) (c : Dev nD) (I : Inputs)

/-- The sixteen arguments hold the model's reals. -/
abbrev ArgsHold : Prop :=
  Holds I (m ((c.tc).loc main_arg0)) (m ((c.tc).loc main_arg1)) (m ((c.tc).loc main_arg2)) (m ((c.tc).loc main_arg3)) (m ((c.tc).loc main_arg4))
    (m ((c.tc).loc main_arg5)) (m ((c.tc).loc main_arg6)) (m ((c.tc).loc main_arg7)) (m ((c.tc).loc main_arg8)) (m ((c.tc).loc main_arg9))
    (m ((c.tc).loc main_arg10)) (m ((c.tc).loc main_arg11)) (m ((c.tc).loc main_arg12)) (m ((c.tc).loc main_arg13)) (m ((c.tc).loc main_arg14))
    (m ((c.tc).loc main_arg15))

/-- A choice between a real and the padding's zero is the padded family. -/
theorem pad_val (f : Fin 768 → ℝ) (j : Fin 1024) (g : (j.val / 128 < 8 ∧ j.val % 128 < 96) → FI .f32)
    (h : ∀ hj, g hj = ((f ⟨j.val / 128 * 96 + j.val % 128, by omega⟩ : ℝ) : EReal)) :
    (if hj : j.val / 128 < 8 ∧ j.val % 128 < 96 then g hj else FloatOps.sitofp FTy.f32 0#32) = ((pad f j : ℝ) : EReal) := by
  unfold Model.pad
  split_ifs with hj
  · exact h hj
  · show ((((0#32 : BitVec 32).toInt : ℤ) : ℝ) : EReal) = _
    simp

variable {m c I}

/-- The padded query projection. -/
theorem wq_val (H : ArgsHold m c I) (a : Fin 768) (j : Fin 1024) :
    (V1 m ρ c main_call0_v4 : Vec FI S768x1024 .bf16) (ix2 a j) = ((pad (fun d => I.wq d a) j : ℝ) : EReal) := by
  unfold V1 W1
  after_reads_at
  exact pad_val (fun d => I.wq d a) j _ fun hj => H.wq _ a

/-- The padded key projection. -/
theorem wk_val (H : ArgsHold m c I) (j a : Fin 1024) :
    (V1 m ρ c main_call0_v8 : Vec FI S1024x1024 .bf16) (ix2 j a) = ((pad (fun d => I.wk d a) j : ℝ) : EReal) := by
  unfold V1 W1
  after_reads_at
  exact pad_val (fun d => I.wk d a) j _ fun hj => H.wk _ a

/-- The padded value projection. -/
theorem wv_val (H : ArgsHold m c I) (a j : Fin 1024) :
    (V1 m ρ c main_call0_v13 : Vec FI S1024x1024 .bf16) (ix2 a j) = ((pad (fun d => I.wv d a) j : ℝ) : EReal) := by
  unfold V1 W1
  after_reads_at
  exact pad_val (fun d => I.wv d a) j _ fun hj => H.wv _ a

/-- The padded query bias. -/
theorem bq_val (H : ArgsHold m c I) (j : Fin 1024) :
    (V1 m ρ c main_call0_v16 : Vec FI S1x1024 .f32) (ix2 0 j) = ((pad I.bq j : ℝ) : EReal) := by
  unfold V1 W1
  after_reads_at
  exact pad_val I.bq j _ fun hj => H.bq _

/-- The padded value bias. -/
theorem bv_val (H : ArgsHold m c I) (j : Fin 1024) :
    (V1 m ρ c main_call0_v27 : Vec FI S1x1024 .bf16) (ix2 0 j) = ((pad I.bv j : ℝ) : EReal) := by
  unfold V1 W1
  after_reads_at
  exact pad_val I.bv j _ fun hj => H.bv _

/-- The padded output projection. -/
theorem wo_val (H : ArgsHold m c I) (j : Fin 1024) (n : Fin 768) :
    (V1 m ρ c main_call0_v24 : Vec FI S1024x768 .bf16) (ix2 j n) = ((pad (fun d => I.wo n d) j : ℝ) : EReal) := by
  unfold V1 W1
  after_reads_at
  exact pad_val (fun d => I.wo n d) j _ fun hj => H.wo n _

/-- The weight of the queries' norm, as a row. -/
theorem lqw_val (H : ArgsHold m c I) (a : Fin 768) : (V1 m ρ c main_call0_v25 : Vec FI S1x768 .f32) (ix2 0 a) = ((I.lw a : ℝ) : EReal) := by
  unfold V1 W1
  after_reads_at
  exact H.lqw a

/-- The bias of the queries' norm, as a row. -/
theorem lqb_val (H : ArgsHold m c I) (a : Fin 768) : (V1 m ρ c main_call0_v26 : Vec FI S1x768 .f32) (ix2 0 a) = ((I.lb a : ℝ) : EReal) := by
  unfold V1 W1
  after_reads_at
  exact H.lqb a

/-- The output bias, as a row. -/
theorem bo_val (H : ArgsHold m c I) (n : Fin 768) : (V1 m ρ c main_call0_v28 : Vec FI S1x768 .f32) (ix2 0 n) = ((I.bo n : ℝ) : EReal) := by
  unfold V1 W1
  after_reads_at
  exact H.bo n

/-- What the second launch finds in an array that neither the first launch nor the operations after it write. -/
theorem kept (r : Ref sig .tc) (h1 : r ∉ hostOps1_W) (h2 : ∀ w : Fin cfg0.W, Pipeline.arrRef spec0 w = r → (cfg0.win w).isOut = false) :
    V3 m ρ c r = V1 m ρ c r :=
  (W3_of m ρ c r h1).trans (W2_of m ρ c r h2)

/-- The cluster sizes, a row a sequence. -/
theorem size_val (H : ArgsHold m c I) (b : Fin 32) (l : Fin 1024) :
    (V3 m ρ c main_call0_v31 : Vec FI S32x1x1024 .f32) (ix3 b 0 l) = ((I.size b l : ℝ) : EReal) := by
  unfold V3 W3
  after_reads_at
  have e : (W2 m ρ c (Proc.tc.devRef main_arg1) : Vec FI S32x1024x1 .f32) = m ((c.tc).loc main_arg1) := W2_args m ρ c _ (by decide)
  exact (congrFun e (ix3 b l 0)).trans (H.size b l)

/-- The query heads the second launch is given. -/
theorem q_val (H : ArgsHold m c I) (a : Fin 256) (j : Fin 1024) :
    (V3 m ρ c main_call0_v29_0 : Vec FI S256x1024 .bf16) (ix2 a j) = ((kq I a j : ℝ) : EReal) := by
  have e : (V3 m ρ c main_call0_v29_0 : Vec FI S256x1024 .bf16) = (dat0 (V1 m ρ) c).arrAt 8 cfg0.N :=
    (W3_of m ρ c main_call0_v29_0 (by decide)).trans (W2_arr m ρ c 8)
  rw [e, first_query (V1 m ρ) c]
  have hx : (V1 m ρ c main_arg3 : Vec FI S256x768 .f32) = m ((c.tc).loc main_arg3) := W1_args m ρ c _ (by decide)
  refine query_val I _ _ _ _ _ (fun a c' => ?_) (lqw_val ρ H) (lqb_val ρ H) (wq_val ρ H) (bq_val ρ H) a j
  rw [hx]
  exact H.q a c'

/-- The output bias the second launch is given. -/
theorem kbo_val (H : ArgsHold m c I) (n : Fin 768) :
    (V3 m ρ c main_call0_v29_1 : Vec FI S1x768 .f32) (ix2 0 n) = ((kbo I n : ℝ) : EReal) := by
  have e : (V3 m ρ c main_call0_v29_1 : Vec FI S1x768 .f32) = (dat0 (V1 m ρ) c).arrAt 9 cfg0.N :=
    (W3_of m ρ c main_call0_v29_1 (by decide)).trans (W2_arr m ρ c 9)
  rw [e, first_bias (V1 m ρ) c]
  exact obias_val I _ _ _ (bo_val ρ H) (bv_val ρ H) (wo_val ρ H) n

/-- The kernel's result, entry by entry, is the model's. -/
theorem kernel_val (H : ArgsHold m c I) (b : Fin 32) (a : Fin 256) (n : Fin 768) :
    ((dat1 (V3 m ρ) c).arrAt 8 cfg1.N : Vec FI S32x256x768 .f32) (ix3 b a n) = ((kerOut I b a n : ℝ) : EReal) := by
  rw [second (V3 m ρ) c]
  have h0 : (V3 m ρ c main_arg0 : Vec FI S32x1024x1024 .f32) = m ((c.tc).loc main_arg0) := W3_args m ρ c _ (by decide)
  have h2 : (V3 m ρ c main_arg2 : Vec FI S32x1x1024 .f32) = m ((c.tc).loc main_arg2) := W3_args m ρ c _ (by decide)
  have h8 : (V3 m ρ c main_call0_v8 : Vec FI S1024x1024 .bf16) = V1 m ρ c main_call0_v8 := kept ρ _ (by decide) (by decide)
  have h13 : (V3 m ρ c main_call0_v13 : Vec FI S1024x1024 .bf16) = V1 m ρ c main_call0_v13 := kept ρ _ (by decide) (by decide)
  have h24 : (V3 m ρ c main_call0_v24 : Vec FI S1024x768 .bf16) = V1 m ρ c main_call0_v24 := kept ρ _ (by decide) (by decide)
  rw [h0, h2, h8, h13, h24]
  exact result_val I _ _ _ _ _ _ _ _ H.x (size_val ρ H) H.mask (q_val ρ H) (wk_val ρ H) (wv_val ρ H) (wo_val ρ H) (kbo_val ρ H) b a n

end Cert.KernelHost

end
-- ==== Proof.RefStages.lean ====
/- The reference's result as a composition of named steps: layer norms, projections, scores, softmax, weighted values, output projection. -/
module

public import proofs.«01_k».proof.Proof.Gen.ReferenceIdeal.Run
public import Idealize.ShloMosaic.Lib.Pointwise

@[expose] public section

noncomputable section

namespace Cert.RefStages

open Cert.ReferenceIdeal Cert.ReferenceIdeal.Gen Idealize.ShloMosaic Idealize.ShloMosaic.TcCoe

variable {F : FTy → Type} [FloatOps F]

/-- A divisor of a norm's variance: the row's length less the degrees of freedom, which are none. -/
def count (n : BitVec 32) : Vec F S_ .f32 := subf (constant S_ .f32 n) (sitofp .f32 (constantI S_ 32 0#32))

/-- Whether a divisor is positive. -/
def positive (n : BitVec 32) : Vec F S_ .i1 := cmpf .ogt (count n : Vec F S_ .f32) (constant S_ .f32 0x00000000#32)

/-- The mean of each position of the sequences. -/
def xmean (x : Vec F S32x1024x1024 .f32) : Vec F S32x1024x1 .f32 :=
  Host.divf (broadcastInDim S32x1024x1 ![0, 1] bcast_S32x1024_S32x1024x1_0_1
      (Host.reduceAdd x (constant S_ .f32 0x00000000#32) reducesTo_S32x1024x1024_S32x1024_d2 h_S_))
    (broadcastInDim S32x1024x1 ![] bcast_S_S32x1024x1 (constant S_ .f32 0x44800000#32))

/-- The sequences less their means. -/
def xcent (x : Vec F S32x1024x1024 .f32) : Vec F S32x1024x1024 .f32 :=
  subf x (broadcastInDim S32x1024x1024 ![0, 1, 2] bcast_S32x1024x1_S32x1024x1024_0_1_2 (xmean x))

/-- The variance of each position, from the centred sequences. -/
def xvar (y : Vec F S32x1024x1024 .f32) : Vec F S32x1024x1 .f32 :=
  select (broadcastInDim S32x1024x1 ![] bcast_S_S32x1024x1 (positive 0x44800000#32 : Vec F S_ .i1))
    (Host.divf (broadcastInDim S32x1024x1 ![0, 1] bcast_S32x1024_S32x1024x1_0_1
        (Host.reduceAdd (mulf y y) (constant S_ .f32 0x00000000#32) reducesTo_S32x1024x1024_S32x1024_d2 h_S_))
      (broadcastInDim S32x1024x1 ![] bcast_S_S32x1024x1 (count 0x44800000#32)))
    (broadcastInDim S32x1024x1 ![] bcast_S_S32x1024x1 (id (constant S_ .f32 0x7FC00000#32)))

/-- The layer norm of the sequences, from the centred sequences and their variances. -/
def xnorm (y : Vec F S32x1024x1024 .f32) (v : Vec F S32x1024x1 .f32) (w b : Vec F S1024 .f32) : Vec F S32x1024x1024 .f32 :=
  addf (mulf (mulf y (broadcastInDim S32x1024x1024 ![0, 1, 2] bcast_S32x1024x1_S32x1024x1024_0_1_2
        (Host.rsqrt (addf v (broadcastInDim S32x1024x1 ![] bcast_S_S32x1024x1 (constant S_ .f32 0x3727C5AC#32))))))
      (broadcastInDim S32x1024x1024 ![0, 1, 2] bcast_S1x1x1024_S32x1024x1024_0_1_2 (broadcastInDim S1x1x1024 ![2] bcast_S1024_S1x1x1024_2 w)))
    (broadcastInDim S32x1024x1024 ![0, 1, 2] bcast_S1x1x1024_S32x1024x1024_0_1_2 (broadcastInDim S1x1x1024 ![2] bcast_S1024_S1x1x1024_2 b))

/-- The score bias of each position: the logarithm of the clamped cluster size, plus the mask. -/
def sbias (s : Vec F S32x1024x1 .f32) (k : Vec F S32x1x1024 .f32) : Vec F S32x1x1024 .f32 :=
  addf (broadcastInDim S32x1x1024 ![0, 2] bcast_S32x1024_S32x1x1024_0_2
      (shapeCast _ (Host.log (select (cmpf .olt s (broadcastInDim S32x1024x1 ![] bcast_S_S32x1024x1 (constant S_ .f32 0x3F000000#32)))
        (broadcastInDim S32x1024x1 ![] bcast_S_S32x1024x1 (constant S_ .f32 0x3F800000#32)) s)) shapeCasts_S32x1024x1_S32x1024)) k

/-- The queries less their means. -/
def qcent (q : Vec F S256x768 .f32) : Vec F S256x768 .f32 :=
  subf q (broadcastInDim S256x768 ![0, 1] bcast_S256x1_S256x768_0_1
    (Host.divf (broadcastInDim S256x1 ![0] bcast_S256_S256x1_0 (Host.reduceAdd q (constant S_ .f32 0x00000000#32) reducesTo_S256x768_S256_d1 h_S_))
      (broadcastInDim S256x1 ![] bcast_S_S256x1 (constant S_ .f32 0x44400000#32))))

/-- The variance of each query, from the centred queries. -/
def qvar (y : Vec F S256x768 .f32) : Vec F S256x1 .f32 :=
  select (broadcastInDim S256x1 ![] bcast_S_S256x1 (positive 0x44400000#32 : Vec F S_ .i1))
    (Host.divf (broadcastInDim S256x1 ![0] bcast_S256_S256x1_0
        (Host.reduceAdd (mulf y y) (constant S_ .f32 0x00000000#32) reducesTo_S256x768_S256_d1 h_S_))
      (broadcastInDim S256x1 ![] bcast_S_S256x1 (count 0x44400000#32)))
    (broadcastInDim S256x1 ![] bcast_S_S256x1 (id (constant S_ .f32 0x7FC00000#32)))

/-- The layer norm of the queries, from the centred queries and their variances. -/
def qnorm (y : Vec F S256x768 .f32) (v : Vec F S256x1 .f32) (w b : Vec F S768 .f32) : Vec F S256x768 .f32 :=
  addf (mulf (mulf y (broadcastInDim S256x768 ![0, 1] bcast_S256x1_S256x768_0_1
        (Host.rsqrt (addf v (broadcastInDim S256x1 ![] bcast_S_S256x1 (constant S_ .f32 0x3727C5AC#32))))))
      (broadcastInDim S256x768 ![0, 1] bcast_S1x768_S256x768_0_1 (broadcastInDim S1x768 ![1] bcast_S768_S1x768_1 w)))
    (broadcastInDim S256x768 ![0, 1] bcast_S1x768_S256x768_0_1 (broadcastInDim S1x768 ![1] bcast_S768_S1x768_1 b))

/-- The scaled query heads. -/
def qheads (y : Vec F S256x768 .f32) (w : Vec F S768x768 .f32) (b : Vec F S768 .f32) : Vec F S256x8x96 .f32 :=
  mulf (shapeCast _ (addf (Host.dotGeneral dot_S256x768_S768x768_S256x768_1_0_0_1_n_n none y (transpose S768x768 [1, 0] w transposes_S768x768_S768x768_1_0))
      (broadcastInDim S256x768 ![0, 1] bcast_S1x768_S256x768_0_1 (broadcastInDim S1x768 ![1] bcast_S768_S1x768_1 b))) shapeCasts_S256x768_S256x8x96)
    (broadcastInDim S256x8x96 ![] bcast_S_S256x8x96 (Host.divf (constant S_ .f32 0x3F800000#32) (Host.sqrt (constant S_ .f32 0x42C00000#32))))

/-- Heads of the sequences: the keys or the values. -/
def xheads (y : Vec F S32x1024x1024 .f32) (w : Vec F S768x1024 .f32) (b : Vec F S768 .f32) : Vec F S32x1024x8x96 .f32 :=
  shapeCast _ (addf (Host.dotGeneral dot_S32x1024x1024_S1024x768_S32x1024x768_2_0_01_1_n_n none y
        (transpose S1024x768 [1, 0] w transposes_S768x1024_S1024x768_1_0))
      (broadcastInDim S32x1024x768 ![0, 1, 2] bcast_S1x1x768_S32x1024x768_0_1_2 (broadcastInDim S1x1x768 ![2] bcast_S768_S1x1x768_2 b)))
    shapeCasts_S32x1024x768_S32x1024x8x96

/-- The scores. -/
def scores (k : Vec F S32x1024x8x96 .f32) (q : Vec F S256x8x96 .f32) (b : Vec F S32x1x1024 .f32) : Vec F S32x8x256x1024 .f32 :=
  addf (transpose S32x8x256x1024 [1, 0, 3, 2] (Host.dotGeneral dot_S32x1024x8x96_S256x8x96_S8x32x1024x256_3_2_01_0_2_1 none k q)
      transposes_S8x32x1024x256_S32x8x256x1024_1_0_3_2)
    (broadcastInDim S32x8x256x1024 ![0, 1, 2, 3] bcast_S32x1x1x1024_S32x8x256x1024_0_1_2_3
      (broadcastInDim S32x1x1x1024 ![0, 2, 3] bcast_S32x1x1024_S32x1x1x1024_0_2_3 b))

/-- The greatest score of each query. -/
def smax (s : Vec F S32x8x256x1024 .f32) : Vec F S32x8x256 .f32 :=
  maximumf (broadcastInDim S32x8x256 ![] bcast_S_S32x8x256 (constant S_ .f32 0xFF800000#32))
    (Host.reduce FloatOps.maximumf s (constant S_ .f32 0xFF800000#32) reducesTo_S32x8x256x1024_S32x8x256_d3 h_S_)

/-- The exponentials of the scores less their greatest. -/
def sexp (s : Vec F S32x8x256x1024 .f32) (g : Vec F S32x8x256 .f32) : Vec F S32x8x256x1024 .f32 :=
  Host.exp (subf s (broadcastInDim S32x8x256x1024 ![0, 1, 2, 3] bcast_S32x8x256x1_S32x8x256x1024_0_1_2_3
    (broadcastInDim S32x8x256x1 ![0, 1, 2] bcast_S32x8x256_S32x8x256x1_0_1_2 g)))

/-- The attention weights. -/
def weights (e : Vec F S32x8x256x1024 .f32) : Vec F S32x8x256x1024 .f32 :=
  Host.divf e (broadcastInDim S32x8x256x1024 ![0, 1, 2, 3] bcast_S32x8x256x1_S32x8x256x1024_0_1_2_3
    (broadcastInDim S32x8x256x1 ![0, 1, 2] bcast_S32x8x256_S32x8x256x1_0_1_2
      (Host.reduceAdd e (constant S_ .f32 0x00000000#32) reducesTo_S32x8x256x1024_S32x8x256_d3 h_S_)))

/-- The weighted values, the heads side by side. -/
def pooled (v : Vec F S32x1024x8x96 .f32) (p : Vec F S32x8x256x1024 .f32) : Vec F S32x256x768 .f32 :=
  shapeCast _ (transpose S32x256x8x96 [0, 3, 1, 2] (Host.dotGeneral dot_S32x1024x8x96_S32x8x256x1024_S32x8x96x256_1_3_3_2_02_01 none v p)
    transposes_S32x8x96x256_S32x256x8x96_0_3_1_2) shapeCasts_S32x256x8x96_S32x256x768

/-- The output projection. -/
def output (o : Vec F S32x256x768 .f32) (w : Vec F S768x768 .f32) (b : Vec F S768 .f32) : Vec F S32x256x768 .f32 :=
  addf (Host.dotGeneral dot_S32x256x768_S768x768_S32x256x768_2_0_01_1_n_n none o (transpose S768x768 [1, 0] w transposes_S768x768_S768x768_1_0))
    (broadcastInDim S32x256x768 ![0, 1, 2] bcast_S1x1x768_S32x256x768_0_1_2 (broadcastInDim S1x1x768 ![2] bcast_S768_S1x1x768_2 b))

/-- The scores of the whole input. -/
def allScores (x : Vec F S32x1024x1024 .f32) (size : Vec F S32x1024x1 .f32) (mask : Vec F S32x1x1024 .f32) (q : Vec F S256x768 .f32)
    (lqw lqb : Vec F S768 .f32) (lkw lkb : Vec F S1024 .f32) (wq : Vec F S768x768 .f32) (wk : Vec F S768x1024 .f32) (bq bk : Vec F S768 .f32) :
    Vec F S32x8x256x1024 .f32 :=
  scores (xheads (xnorm (xcent x) (xvar (xcent x)) lkw lkb) wk bk) (qheads (qnorm (qcent q) (qvar (qcent q)) lqw lqb) wq bq) (sbias size mask)

/-- The reference as a composition of the steps. -/
def whole (x : Vec F S32x1024x1024 .f32) (size : Vec F S32x1024x1 .f32) (mask : Vec F S32x1x1024 .f32) (q : Vec F S256x768 .f32)
    (lqw lqb : Vec F S768 .f32) (lkw lkb : Vec F S1024 .f32) (wq : Vec F S768x768 .f32) (wk wv : Vec F S768x1024 .f32) (bq bk bv : Vec F S768 .f32)
    (wo : Vec F S768x768 .f32) (bo : Vec F S768 .f32) : Vec F S32x256x768 .f32 :=
  output (pooled (xheads (xnorm (xcent x) (xvar (xcent x)) lkw lkb) wv bv)
    (weights (sexp (allScores x size mask q lqw lqb lkw lkb wq wk bq bk) (smax (allScores x size mask q lqw lqb lkw lkb wq wk bq bk))))) wo bo

/-- The reference's run leaves that composition of its arguments. -/
theorem result_whole (m : (ℓ : Loc nD τ sig) → Buf (Elt F) ℓ) (c : Dev nD) : Cert.ReferenceIdeal.Value.res_main_v89 m c =
    whole (m ((c.tc).loc main_arg0)) (m ((c.tc).loc main_arg1)) (m ((c.tc).loc main_arg2)) (m ((c.tc).loc main_arg3)) (m ((c.tc).loc main_arg4))
      (m ((c.tc).loc main_arg5)) (m ((c.tc).loc main_arg6)) (m ((c.tc).loc main_arg7)) (m ((c.tc).loc main_arg8)) (m ((c.tc).loc main_arg9))
      (m ((c.tc).loc main_arg10)) (m ((c.tc).loc main_arg11)) (m ((c.tc).loc main_arg12)) (m ((c.tc).loc main_arg13)) (m ((c.tc).loc main_arg14))
      (m ((c.tc).loc main_arg15)) := rfl

end Cert.RefStages

end
-- ==== Proof.RefValue.lean ====
/- The reference's steps at real arguments: each array holds the reals of the model. -/
module

public import proofs.«01_k».proof.Proof.RefStages
public import proofs.«01_k».proof.Proof.Held

@[expose] public section

noncomputable section

namespace Cert.RefValue

open Cert.ReferenceIdeal Cert.ReferenceIdeal.Gen Cert.RefStages Cert.Model Cert.Held Cert.Consts Idealize.ShloMosaic Idealize.ShloMosaic.TcCoe

local notation "FI" => Idealize.ShloMosaic.Ideal

/-- A maximum over the last of four axes, at an index. -/
theorem max_last {n0 n1 n2 n3 : ℕ} {u : Shape} (x : FVec FI ⟨4, ![n0, n1, n2, n3]⟩ .f32) (init : FVec FI u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = Finset.univ.fold max (init (Shape.Idx.first hu)) fun k => x (ix4 a b c k) := by
  pointwise

/-- A maximum of two arrays, at an index. -/
theorem max_at {t : Shape} (x y : FVec FI t .f32) (j : t.Idx) : maximumf x y j = max (x j) (y j) := rfl

/-- A constant array, at an index. -/
theorem const_at {t : Shape} (n : BitVec 32) (j : t.Idx) : (constant t .f32 n : FVec FI t .f32) j = Idealize.ShloMosaic.Ideal.ofBits .f32 n := rfl

/-- A broadcast constant, at an index. -/
theorem bcast_const {t : Shape} (n : BitVec 32) (dims : Fin 0 → Fin t.rank) (h : (⟨0, ![]⟩ : Shape).BroadcastsInDim t dims) (j : t.Idx) :
    broadcastInDim t dims h (constant ⟨0, ![]⟩ .f32 n : FVec FI ⟨0, ![]⟩ .f32) j = Idealize.ShloMosaic.Ideal.ofBits .f32 n := rfl

/-- The greatest of a query's real scores is real. -/
theorem smax_val (s : Vec FI S32x8x256x1024 .f32) (b : Fin 32) (h : Fin 8) (a : Fin 256) (f : Fin 1024 → ℝ)
    (hs : ∀ l, s (ix4 b h a l) = ((f l : ℝ) : EReal)) : ∃ M : ℝ, smax s (ix3 b h a) = (M : EReal) := by
  obtain ⟨M, hM⟩ := fold_max f
  refine ⟨M, ?_⟩
  unfold smax
  rw [max_at, max_last]
  simp only [hs, const_at, cbot, hM]
  rw [bcast_const, cbot]
  exact max_eq_right bot_le

/-- A row's length less no degrees of freedom. -/
theorem count_val (n : BitVec 32) (r : ℝ) (hn : Idealize.ShloMosaic.Ideal.ofBits .f32 n = ((r : ℝ) : EReal)) :
    (RefStages.count n : Vec FI S_ .f32) ix0 = ((r : ℝ) : EReal) := by
  have e : (RefStages.count n : Vec FI S_ .f32) ix0 = Idealize.ShloMosaic.Ideal.ofBits .f32 n - ((((0#32 : BitVec 32).toInt : ℤ) : ℝ) : EReal) := rfl
  rw [e, hn]
  simp

/-- The centred sequences. -/
theorem xcent_val (x : Vec FI S32x1024x1024 .f32) (f : Fin 32 → Fin 1024 → Fin 1024 → ℝ) (hx : ∀ b l c, x (ix3 b l c) = ((f b l c : ℝ) : EReal))
    (b : Fin 32) (l c : Fin 1024) : xcent x (ix3 b l c) = ((f b l c - mean (f b l) : ℝ) : EReal) := by
  pointwise [xcent, xmean]
  simp only [hx, c1024, ← coe_sum, idiv _ _ (show (1024 : ℝ) ≠ 0 by norm_num), ← EReal.coe_sub]
  unfold mean; push_cast; rfl

/-- The variances of the sequences' positions. -/
theorem xvar_val (y : Vec FI S32x1024x1024 .f32) (f : Fin 32 → Fin 1024 → Fin 1024 → ℝ)
    (hy : ∀ b l c, y (ix3 b l c) = ((f b l c - mean (f b l) : ℝ) : EReal)) (b : Fin 32) (l : Fin 1024) :
    xvar y (ix3 b l 0) = ((var (f b l) : ℝ) : EReal) := by
  have h0 : (0 : EReal) < ((1024 : ℝ) : EReal) := by rw [← EReal.coe_zero, EReal.coe_lt_coe_iff]; norm_num
  pointwise [xvar, positive]
  rw [count_val _ _ c1024, if_pos h0]
  simp only [hy, ← EReal.coe_mul, ← coe_sum, idiv _ _ (show (1024 : ℝ) ≠ 0 by norm_num)]
  unfold var; push_cast; rfl

/-- The layer norm of the sequences. -/
theorem xnorm_val (y : Vec FI S32x1024x1024 .f32) (v : Vec FI S32x1024x1 .f32) (w o : Vec FI S1024 .f32) (f : Fin 32 → Fin 1024 → Fin 1024 → ℝ)
    (hy : ∀ b l c, y (ix3 b l c) = ((f b l c - mean (f b l) : ℝ) : EReal)) (hv : ∀ b l, v (ix3 b l 0) = ((var (f b l) : ℝ) : EReal))
    (hw : ∀ c, w (ix1 c) = ((1 : ℝ) : EReal)) (ho : ∀ c, o (ix1 c) = ((0 : ℝ) : EReal)) (b : Fin 32) (l c : Fin 1024) :
    xnorm y v w o (ix3 b l c) = ((Model.norm (f b l) c : ℝ) : EReal) := by
  pointwise [xnorm]
  simp only [hy, hv, hw, ho, ceps, ← EReal.coe_add, irsqrt _ (var_eps_pos (f b l)), ← EReal.coe_mul]
  unfold Model.norm; simp

/-- The score bias. -/
theorem sbias_val (I : Inputs) (s : Vec FI S32x1024x1 .f32) (k : Vec FI S32x1x1024 .f32) (hs : ∀ b l, s (ix3 b l 0) = ((I.size b l : ℝ) : EReal))
    (hk : ∀ b l, k (ix3 b 0 l) = ((I.mask b l : ℝ) : EReal)) (b : Fin 32) (l : Fin 1024) :
    sbias s k (ix3 b 0 l) = ((Real.log (sz I b l) + I.mask b l : ℝ) : EReal) := by
  pointwise [sbias]
  rw [hs, hk, chalf, clamp, ilog _ (sz_pos I b l), ← EReal.coe_add]

/-- The centred queries. -/
theorem qcent_val (x : Vec FI S256x768 .f32) (f : Fin 256 → Fin 768 → ℝ) (hx : ∀ a c, x (ix2 a c) = ((f a c : ℝ) : EReal))
    (a : Fin 256) (c : Fin 768) : qcent x (ix2 a c) = ((f a c - mean (f a) : ℝ) : EReal) := by
  pointwise [qcent]
  simp only [hx, c768, ← coe_sum, idiv _ _ (show (768 : ℝ) ≠ 0 by norm_num), ← EReal.coe_sub]
  unfold mean; push_cast; rfl

/-- The variances of the queries. -/
theorem qvar_val (y : Vec FI S256x768 .f32) (f : Fin 256 → Fin 768 → ℝ) (hy : ∀ a c, y (ix2 a c) = ((f a c - mean (f a) : ℝ) : EReal)) (a : Fin 256) :
    qvar y (ix2 a 0) = ((var (f a) : ℝ) : EReal) := by
  have h0 : (0 : EReal) < ((768 : ℝ) : EReal) := by rw [← EReal.coe_zero, EReal.coe_lt_coe_iff]; norm_num
  pointwise [qvar, positive]
  rw [count_val _ _ c768, if_pos h0]
  simp only [hy, ← EReal.coe_mul, ← coe_sum, idiv _ _ (show (768 : ℝ) ≠ 0 by norm_num)]
  unfold var; push_cast; rfl

/-- The layer norm of the queries. -/
theorem qnorm_val (I : Inputs) (y : Vec FI S256x768 .f32) (v : Vec FI S256x1 .f32) (w o : Vec FI S768 .f32)
    (hy : ∀ a c, y (ix2 a c) = ((I.q a c - mean (I.q a) : ℝ) : EReal)) (hv : ∀ a, v (ix2 a 0) = ((var (I.q a) : ℝ) : EReal))
    (hw : ∀ c, w (ix1 c) = ((I.lw c : ℝ) : EReal)) (ho : ∀ c, o (ix1 c) = ((I.lb c : ℝ) : EReal)) (a : Fin 256) (c : Fin 768) :
    qnorm y v w o (ix2 a c) = ((qn I a c : ℝ) : EReal) := by
  pointwise [qnorm]
  simp only [hy, hv, hw, ho, ceps, ← EReal.coe_add, irsqrt _ (var_eps_pos (I.q a)), ← EReal.coe_mul]
  rfl

/-- The scaled query heads. -/
theorem qheads_val (I : Inputs) (y : Vec FI S256x768 .f32) (w : Vec FI S768x768 .f32) (o : Vec FI S768 .f32)
    (hy : ∀ a c, y (ix2 a c) = ((qn I a c : ℝ) : EReal)) (hw : ∀ d c, w (ix2 d c) = ((I.wq d c : ℝ) : EReal)) (ho : ∀ d, o (ix1 d) = ((I.bq d : ℝ) : EReal))
    (a : Fin 256) (h : Fin 8) (e : Fin 96) : qheads y w o (ix3 a h e) = ((qp I a (hd h e) * (1 / √96) : ℝ) : EReal) := by
  have h96 : (√96 : ℝ) ≠ 0 := by positivity
  pointwise [qheads]
  rw [c96, isqrt _ (by norm_num), ← EReal.coe_one, idiv _ _ h96]
  simp only [hy, hw, ho, ← EReal.coe_mul, ← coe_sum, ← EReal.coe_add]
  rfl

/-- The heads of the sequences. -/
theorem xheads_val (f : Fin 32 → Fin 1024 → Fin 1024 → ℝ) (g : Fin 768 → Fin 1024 → ℝ) (r : Fin 768 → ℝ) (y : Vec FI S32x1024x1024 .f32)
    (w : Vec FI S768x1024 .f32) (o : Vec FI S768 .f32) (hy : ∀ b l c, y (ix3 b l c) = ((f b l c : ℝ) : EReal))
    (hw : ∀ d c, w (ix2 d c) = ((g d c : ℝ) : EReal)) (ho : ∀ d, o (ix1 d) = ((r d : ℝ) : EReal)) (b : Fin 32) (l : Fin 1024) (h : Fin 8) (e : Fin 96) :
    xheads y w o (ix4 b l h e) = ((∑ c, f b l c * g (hd h e) c + r (hd h e) : ℝ) : EReal) := by
  pointwise [xheads]
  simp only [hy, hw, ho, ← EReal.coe_mul, ← coe_sum, ← EReal.coe_add]
  rfl

/-- The scores. -/
theorem scores_val (I : Inputs) (k : Vec FI S32x1024x8x96 .f32) (q : Vec FI S256x8x96 .f32) (o : Vec FI S32x1x1024 .f32)
    (hk : ∀ b l h e, k (ix4 b l h e) = ((kp I b l (hd h e) + I.bk (hd h e) : ℝ) : EReal))
    (hq : ∀ a h e, q (ix3 a h e) = ((qp I a (hd h e) * (1 / √96) : ℝ) : EReal))
    (ho : ∀ b l, o (ix3 b 0 l) = ((Real.log (sz I b l) + I.mask b l : ℝ) : EReal)) (b : Fin 32) (h : Fin 8) (a : Fin 256) (l : Fin 1024) :
    scores k q o (ix4 b h a l) = ((score I b h a l : ℝ) : EReal) := by
  pointwise [scores]
  simp only [hk, hq, ho, ← EReal.coe_mul, ← coe_sum, ← EReal.coe_add]
  rfl

/-- The attention weights: whichever real is taken off the scores before they are exponentiated, the quotient is the same. -/
theorem weights_val (I : Inputs) (s : Vec FI S32x8x256x1024 .f32) (hs : ∀ b h a l, s (ix4 b h a l) = ((score I b h a l : ℝ) : EReal))
    (b : Fin 32) (h : Fin 8) (a : Fin 256) (l : Fin 1024) : weights (sexp s (smax s)) (ix4 b h a l) = ((attn I b h a l : ℝ) : EReal) := by
  obtain ⟨M, hM⟩ := smax_val s b h a _ (hs b h a)
  have he : ∀ l, sexp s (smax s) (ix4 b h a l) = ((Real.exp (score I b h a l - M) : ℝ) : EReal) := by
    intro l
    pointwise [sexp]
    rw [hs, hM, ← EReal.coe_sub]
    rfl
  have hpos : (∑ l, Real.exp (score I b h a l - M)) ≠ 0 :=
    (Finset.sum_pos (fun _ _ => Real.exp_pos _) Finset.univ_nonempty).ne'
  pointwise [weights]
  simp only [he, ← coe_sum]
  rw [idiv _ _ hpos, softmax_shift]
  rfl

/-- The weighted values. -/
theorem pooled_val (I : Inputs) (v : Vec FI S32x1024x8x96 .f32) (p : Vec FI S32x8x256x1024 .f32)
    (hv : ∀ b l h e, v (ix4 b l h e) = ((vp I b l (hd h e) + I.bv (hd h e) : ℝ) : EReal))
    (hp : ∀ b h a l, p (ix4 b h a l) = ((attn I b h a l : ℝ) : EReal)) (b : Fin 32) (a : Fin 256) (d : Fin 768) :
    pooled v p (ix3 b a d) = ((∑ l, (vp I b l d + I.bv d) * attn I b (headOf d) a l : ℝ) : EReal) := by
  have hd' : ∀ (p : d.val / 96 < 8) (q : d.val % 96 < 96), hd ⟨d.val / 96, p⟩ ⟨d.val % 96, q⟩ = d := fun _ _ =>
    Fin.ext (by simp only [hd]; omega)
  pointwise [pooled]
  simp only [hv, hp, hd', ← EReal.coe_mul, ← coe_sum]
  rfl

/-- The output projection. -/
theorem output_val (f : Fin 32 → Fin 256 → Fin 768 → ℝ) (I : Inputs) (y : Vec FI S32x256x768 .f32) (w : Vec FI S768x768 .f32) (o : Vec FI S768 .f32)
    (hy : ∀ b a d, y (ix3 b a d) = ((f b a d : ℝ) : EReal)) (hw : ∀ n d, w (ix2 n d) = ((I.wo n d : ℝ) : EReal)) (ho : ∀ n, o (ix1 n) = ((I.bo n : ℝ) : EReal))
    (b : Fin 32) (a : Fin 256) (n : Fin 768) : output y w o (ix3 b a n) = ((∑ d, f b a d * I.wo n d + I.bo n : ℝ) : EReal) := by
  pointwise [output]
  simp only [hy, hw, ho, ← EReal.coe_mul, ← coe_sum, ← EReal.coe_add]

/-- The reference's result, entry by entry, is the model's. -/
theorem whole_val (I : Inputs) {x s k q lqw lqb lkw lkb wq wk wv bq bk bv wo bo} (H : Holds I x s k q lqw lqb lkw lkb wq wk wv bq bk bv wo bo)
    (b : Fin 32) (a : Fin 256) (n : Fin 768) :
    (whole x s k q lqw lqb lkw lkb wq wk wv bq bk bv wo bo : Vec FI S32x256x768 .f32) (ix3 b a n) = ((refOut I b a n : ℝ) : EReal) := by
  have hc := xcent_val x I.x H.x
  have hn := xnorm_val (xcent x) (xvar (xcent x)) lkw lkb I.x hc (xvar_val _ I.x hc) H.lkw H.lkb
  have hk := xheads_val (fun b l c => Model.norm (I.x b l) c) I.wk I.bk _ wk bk hn H.wk H.bk
  have hv := xheads_val (fun b l c => Model.norm (I.x b l) c) I.wv I.bv _ wv bv hn H.wv H.bv
  have hqc := qcent_val q I.q H.q
  have hq := qheads_val I _ wq bq (qnorm_val I (qcent q) (qvar (qcent q)) lqw lqb hqc (qvar_val _ I.q hqc) H.lqw H.lqb) H.wq H.bq
  have hs : ∀ b h a l, allScores x s k q lqw lqb lkw lkb wq wk bq bk (ix4 b h a l) = ((score I b h a l : ℝ) : EReal) :=
    scores_val I _ _ _ hk hq (sbias_val I s k H.size H.mask)
  exact output_val _ I _ wo bo (pooled_val I _ _ hv (weights_val I _ hs)) H.wo H.bo b a n

end Cert.RefValue

end
-- ==== Proof.Usual.lean ====
/- What the precondition says: there are reals that the sixteen argument arrays hold. -/
module

public import proofs.«01_k».proof.Proof.Gen.Pre_usual
public import proofs.«01_k».proof.Proof.Held
public import Idealize.ShloMosaic.Lib.ReduceAll

@[expose] public section

noncomputable section

namespace Cert.Usual

open Cert.Pre_usual Cert.Pre_usual.Gen Cert.Model Cert.Held Idealize.ShloMosaic

local notation "FI" => Idealize.ShloMosaic.Ideal

/-- The reduction over all axes has one index. -/
instance : Subsingleton (S_ : Shape).Idx := ⟨fun a b => funext fun d => d.elim0⟩

/-- Of two conditions that hold together each holds. -/
theorem both {a b : IVec S_ 1} {j : S_.Idx} (h : andi a b j = 1#1) : a j = 1#1 ∧ b j = 1#1 := by
  have e : ∀ p q : BitVec 1, p &&& q = 1#1 → p = 1#1 ∧ q = 1#1 := by decide
  exact e _ _ h

/-- A condition whose bit is one is true. -/
theorem of_bool {p : Prop} [Decidable p] (h : BitVec.ofBool (decide p) = 1#1) : p := by
  by_contra hp
  rw [decide_eq_false hp] at h
  exact absurd h (by decide)

/-- The pattern of one. -/
theorem one : Idealize.ShloMosaic.Ideal.ofBits .f32 0x3F800000#32 = ((1 : ℝ) : EReal) := by
  simp [Ideal.ofBits, Ideal.ieee, -EReal.coe_mul, -EReal.coe_one]; norm_num

/-- The pattern of zero. -/
theorem zero : Idealize.ShloMosaic.Ideal.ofBits .f32 0x00000000#32 = ((0 : ℝ) : EReal) := by
  simp [Ideal.ofBits, Ideal.ieee]

/-- An array whose entries' absolute values are all below infinity holds reals. -/
theorem reals {s : Shape} {axes : List (Fin s.rank)} (x : FVec FI s .f32) (dims : Fin 0 → Fin s.rank) (bc : S_.BroadcastsInDim s dims) (h : s.ReducesTo axes S_)
    (hu : 0 < S_.numel) (j : S_.Idx)
    (e : Host.reduce IntOp.andi (cmpf .olt (Host.absf x) (broadcastInDim s dims bc (constant S_ .f32 0x7F800000#32))) (constantI S_ 1 1#1) h hu j = 1#1)
    (i : s.Idx) : x i = ((EReal.toReal (x i) : ℝ) : EReal) := by
  have hi := Host.reduce_andi_all _ _ h hu j e i
  have top : Idealize.ShloMosaic.Ideal.ofBits .f32 0x7F800000#32 = ⊤ := by simp [Ideal.ofBits, Ideal.ieee]
  have hl : (max (x i : EReal) (-(x i : EReal))) < ⊤ := by
    have hb : BitVec.ofBool (decide ((max (x i : EReal) (-(x i : EReal))) < Idealize.ShloMosaic.Ideal.ofBits .f32 0x7F800000#32)) = 1#1 := hi
    rw [top] at hb
    exact of_bool hb
  have h1 : (x i : EReal) ≠ ⊤ := fun ht => absurd hl (by simp [ht])
  have h2 : (x i : EReal) ≠ ⊥ := fun ht => absurd hl (by simp [ht])
  exact (EReal.coe_toReal h1 h2).symm

/-- An array whose entries all compare equal to a constant holds that constant. -/
theorem equals {s : Shape} {axes : List (Fin s.rank)} (x : FVec FI s .f32) (n : BitVec 32) (dims : Fin 0 → Fin s.rank) (bc : S_.BroadcastsInDim s dims)
    (h : s.ReducesTo axes S_) (hu : 0 < S_.numel) (j : S_.Idx)
    (e : Host.reduce IntOp.andi (cmpf .oeq x (broadcastInDim s dims bc (constant S_ .f32 n))) (constantI S_ 1 1#1) h hu j = 1#1)
    (i : s.Idx) : x i = Idealize.ShloMosaic.Ideal.ofBits .f32 n := by
  have hi := Host.reduce_andi_all _ _ h hu j e i
  have hb : BitVec.ofBool (decide ((x i : EReal) = Idealize.ShloMosaic.Ideal.ofBits .f32 n)) = 1#1 := hi
  exact of_bool hb

/-- Arrays that meet the precondition hold reals, and the keys' layer norm has weight one and bias zero. -/
theorem holds {x s k q lqw lqb lkw lkb wq wk wv bq bk bv wo bo}
    (H : (Cert.Pre_usual.fn (F := FI) x s k q lqw lqb lkw lkb wq wk wv bq bk bv wo bo) = fun _ => 1#1) :
    ∃ I : Inputs, Holds I x s k q lqw lqb lkw lkb wq wk wv bq bk bv wo bo := by
  have H0 := congrFun H ix0
  dsimp only [Cert.Pre_usual.fn, fn_part1, fn_part2, fn_part3, fn_part4] at H0
  obtain ⟨H0, hbo⟩ := both H0
  obtain ⟨H0, hwo⟩ := both H0
  obtain ⟨H0, hbv⟩ := both H0
  obtain ⟨H0, hbk⟩ := both H0
  obtain ⟨H0, hbq⟩ := both H0
  obtain ⟨H0, hwv⟩ := both H0
  obtain ⟨H0, hwk⟩ := both H0
  obtain ⟨H0, hwq⟩ := both H0
  obtain ⟨H0, hlqb⟩ := both H0
  obtain ⟨H0, hlqw⟩ := both H0
  obtain ⟨H0, hq⟩ := both H0
  obtain ⟨H0, hk⟩ := both H0
  obtain ⟨H0, hs⟩ := both H0
  obtain ⟨H0, hx⟩ := both H0
  obtain ⟨hlkw, hlkb⟩ := both H0
  refine ⟨⟨fun b l c => EReal.toReal (x (ix3 b l c)), fun b l => EReal.toReal (s (ix3 b l 0)), fun b l => EReal.toReal (k (ix3 b 0 l)),
    fun a c => EReal.toReal (q (ix2 a c)), fun c => EReal.toReal (lqw (ix1 c)), fun c => EReal.toReal (lqb (ix1 c)),
    fun d c => EReal.toReal (wq (ix2 d c)), fun d c => EReal.toReal (wk (ix2 d c)), fun d c => EReal.toReal (wv (ix2 d c)),
    fun d => EReal.toReal (bq (ix1 d)), fun d => EReal.toReal (bk (ix1 d)), fun d => EReal.toReal (bv (ix1 d)),
    fun n d => EReal.toReal (wo (ix2 n d)), fun n => EReal.toReal (bo (ix1 n))⟩, ?_⟩
  exact
    { x := fun _ _ _ => reals _ _ _ _ _ _ hx _, size := fun _ _ => reals _ _ _ _ _ _ hs _, mask := fun _ _ => reals _ _ _ _ _ _ hk _,
      q := fun _ _ => reals _ _ _ _ _ _ hq _, lqw := fun _ => reals _ _ _ _ _ _ hlqw _, lqb := fun _ => reals _ _ _ _ _ _ hlqb _,
      lkw := fun _ => (equals _ _ _ _ _ _ _ hlkw _).trans one, lkb := fun _ => (equals _ _ _ _ _ _ _ hlkb _).trans zero,
      wq := fun _ _ => reals _ _ _ _ _ _ hwq _, wk := fun _ _ => reals _ _ _ _ _ _ hwk _, wv := fun _ _ => reals _ _ _ _ _ _ hwv _,
      bq := fun _ => reals _ _ _ _ _ _ hbq _, bk := fun _ => reals _ _ _ _ _ _ hbk _, bv := fun _ => reals _ _ _ _ _ _ hbv _,
      wo := fun _ _ => reals _ _ _ _ _ _ hwo _, bo := fun _ => reals _ _ _ _ _ _ hbo _ }

end Cert.Usual

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_usual
public import proofs.«01_k».proof.Proof.Gen.ReferenceIdeal.Run
public import proofs.«01_k».proof.Proof.KernelRun
public import proofs.«01_k».proof.Proof.KernelHost
public import proofs.«01_k».proof.Proof.RefValue
public import proofs.«01_k».proof.Proof.Usual
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, leaves its arguments, and ends with every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants denote the reals the table gives them. -/
theorem preserves : Cert.preserves_Kernel_KernelIdeal :=
  ⟨IdealRules.named_const.statement Cert.KernelIdeal.κ "qscale" .f32 0x3E16C740#32 (((Real.log 2)⁻¹ * (Real.sqrt 96)⁻¹ : ℝ) : EReal) rfl,
    IdealRules.named_const.statement Cert.KernelIdeal.κ "log2e" .f32 0x3FB8AA3B#32 (((Real.log 2)⁻¹ : ℝ) : EReal) rfl⟩

/-- From arguments that agree and meet the precondition the kernel and the reference end with equal results. -/
theorem algebraic : Cert.algebraic_KernelIdeal_ReferenceIdeal_pre_usual := by
  intro m ρ m' ρ' hpre hagree
  refine ⟨fun c => (Cert.KernelIdeal.Gen.dat1 (Cert.KernelIdeal.Gen.V3 m ρ) c).arrAt 8 Cert.KernelIdeal.cfg1.N, ?_, ?_⟩
  · refine (θ_run Cert.KernelIdeal.defs _ _).mono (fun r h c => ⟨(h.1 c).1, ?_⟩) (Cert.KernelRun.run (F := Ideal) m ρ)
    have ha := (h.1 c).2
    and_intros <;> (refine ha _ ?_; decide)
  · refine (θ_run Cert.ReferenceIdeal.defs _ _).mono (fun r h c => ⟨(h c).1.trans ?_, (h c).2⟩)
      (Cert.ReferenceIdeal.Value.run (F := Ideal) m' ρ')
    obtain ⟨I, H⟩ := Cert.Usual.holds (hpre c)
    obtain ⟨e0, e1, e2, e3, e4, e5, e6, e7, e8, e9, e10, e11, e12, e13, e14, e15⟩ := hagree c
    rw [Cert.RefStages.result_whole, e0, e1, e2, e3, e4, e5, e6, e7, e8, e9, e10, e11, e12, e13, e14, e15]
    funext j
    obtain ⟨b, a, n, rfl⟩ : ∃ b a n, j = ix3 b a n := ⟨j 0, j 1, j 2, by funext d; fin_cases d <;> rfl⟩
    exact (Cert.RefValue.whole_val I H b a n).trans ((congrArg (fun r : ℝ => (r : EReal)) (Cert.Model.agree I b a n).symm).trans (Cert.KernelHost.kernel_val ρ H b a n).symm)

/-- Everything this certificate claims. -/
theorem claim : Cert.Claim :=
  ⟨Cert.Kernel.Gen.facts, Cert.KernelIdeal.Gen.facts, Cert.ReferenceIdeal.Gen.facts, Cert.Pre_usual.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, preserves, algebraic⟩

end Cert.Proof

end
